-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "t1" .f32 0x3C23D70A#32 ((1 / 100 : ℝ) : EReal)
  ∧ IdealRules.named_const.Statement Cert.KernelIdeal.κ "t2" .f32 0x3D23D70A#32 ((1 / 25 : ℝ) : EReal)
  ∧ IdealRules.named_const.Statement Cert.KernelIdeal.κ "t3" .f32 0x3DB851EC#32 ((9 / 100 : ℝ) : EReal)
  ∧ IdealRules.named_const.Statement Cert.KernelIdeal.κ "t4" .f32 0x3E23D70A#32 ((4 / 25 : ℝ) : EReal)
  ∧ IdealRules.named_const.Statement Cert.KernelIdeal.κ "t6" .f32 0x3EB851EC#32 ((9 / 25 : ℝ) : EReal)
  ∧ IdealRules.named_const.Statement Cert.KernelIdeal.κ "t8" .f32 0x3F23D70A#32 ((16 / 25 : ℝ) : EReal)

def algebraic_KernelIdeal_ReferenceIdeal_on_off_the_gaps [hKernelIdeal : Cert.KernelIdeal.Facts] [hReferenceIdeal : Cert.ReferenceIdeal.Facts] [hOn_off_the_gaps : Cert.On_off_the_gaps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          (∀ i : (⟨1, ![16384]⟩ : Shape).Idx, (Cert.On_off_the_gaps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![16384]⟩ : Shape).Idx, (Cert.On_off_the_gaps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v39) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_off_the_gaps : Cert.On_off_the_gaps.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_off_the_gaps (hKernelIdeal := hKernelIdeal) (hReferenceIdeal := hReferenceIdeal) (hOn_off_the_gaps := hOn_off_the_gaps)
-- ==== On_off_the_gaps.lean ====
abbrev S16384x11 : Shape := ⟨2, ![16384, 11]⟩
abbrev S16384x10 : Shape := ⟨2, ![16384, 10]⟩
abbrev S16384x1 : Shape := ⟨2, ![16384, 1]⟩
abbrev S16384 : Shape := ⟨1, ![16384]⟩
abbrev S_ : Shape := ⟨0, ![]⟩

class Facts : Prop where
  slices_S16384x11_S16384x1_0_0 : S16384x11.Slices ![0, 0] S16384x1
  shapeCasts_S16384x1_S16384 : S16384x1.ShapeCasts S16384
  slices_S16384x11_S16384x1_0_2 : S16384x11.Slices ![0, 2] S16384x1
  bcast_S_S16384 : S_.BroadcastsInDim S16384 (![] : Fin 0 → Fin S16384.rank)

variable [Facts]

def fn_part1 {F : FTy → Type} [FloatOps F] (main_v12 : FVec F S16384 .f32) (main_v19 : IVec S16384 1) (main_cst_2 : FVec F S_ .f32) : IVec S16384 1 :=
  let main_v20 : FVec F S16384 .f32 := broadcastInDim S16384 ![] bcast_S_S16384 main_cst_2
  let main_v21 : FVec F S16384 .f32 := mulf main_v20 main_v12
  let main_cst_3 : FVec F S_ .f32 := constant S_ .f32 0x42A20000#32
  let main_v22 : FVec F S16384 .f32 := broadcastInDim S16384 ![] bcast_S_S16384 main_cst_3
  let main_v23 : IVec S16384 1 := cmpf .oge main_v21 main_v22
  let main_cst_4 : FVec F S_ .f32 := constant S_ .f32 0x3F4F5C2A#32
  let main_v24 : FVec F S16384 .f32 := broadcastInDim S16384 ![] bcast_S_S16384 main_cst_4
  let main_v25 : IVec S16384 1 := cmpf .olt main_v12 main_v24
  let main_v26 : IVec S16384 1 := andi main_v23 main_v25
  let main_v27 : IVec S16384 1 := ori main_v19 main_v26
  let main_v28 : IVec S16384 1 := noti main_v27
  main_v28

def fn {F : FTy → Type} [FloatOps F] (main_arg0 : FVec F S16384x11 .f32) (main_arg1 : FVec F S16384x11 .f32) (main_arg2 : FVec F S16384x10 .f32) : IVec S16384 1 :=
  let main_v0 : FVec F S16384x1 .f32 := (extractStridedSlice S16384x1 ![0, 0] · slices_S16384x11_S16384x1_0_0) main_arg1
  let main_v1 : FVec F S16384 .f32 := shapeCast S16384 main_v0 shapeCasts_S16384x1_S16384
  let main_v2 : FVec F S16384x1 .f32 := (extractStridedSlice S16384x1 ![0, 0] · slices_S16384x11_S16384x1_0_0) main_arg0
  let main_v3 : FVec F S16384 .f32 := shapeCast S16384 main_v2 shapeCasts_S16384x1_S16384
  let main_v4 : FVec F S16384 .f32 := subf main_v1 main_v3
  let main_v5 : FVec F S16384x1 .f32 := (extractStridedSlice S16384x1 ![0, 2] · slices_S16384x11_S16384x1_0_2) main_arg1
  let main_v6 : FVec F S16384 .f32 := shapeCast S16384 main_v5 shapeCasts_S16384x1_S16384
  let main_v7 : FVec F S16384x1 .f32 := (extractStridedSlice S16384x1 ![0, 2] · slices_S16384x11_S16384x1_0_2) main_arg0
  let main_v8 : FVec F S16384 .f32 := shapeCast S16384 main_v7 shapeCasts_S16384x1_S16384
  let main_v9 : FVec F S16384 .f32 := subf main_v6 main_v8
  let main_v10 : FVec F S16384 .f32 := mulf main_v4 main_v4
  let main_v11 : FVec F S16384 .f32 := mulf main_v9 main_v9
  let main_v12 : FVec F S16384 .f32 := addf main_v10 main_v11
  let main_cst : FVec F S_ .f32 := constant S_ .f32 0x3EFAE146#32
  let main_v13 : FVec F S16384 .f32 := broadcastInDim S16384 ![] bcast_S_S16384 main_cst
  let main_v14 : IVec S16384 1 := cmpf .oge main_v12 main_v13
  let main_cst_0 : FVec F S_ .f32 := constant S_ .f32 0x42C80000#32
  let main_v15 : FVec F S16384 .f32 := broadcastInDim S16384 ![] bcast_S_S16384 main_cst_0
  let main_v16 : FVec F S16384 .f32 := mulf main_v15 main_v12
  let main_cst_1 : FVec F S_ .f32 := constant S_ .f32 0x42440000#32
  let main_v17 : FVec F S16384 .f32 := broadcastInDim S16384 ![] bcast_S_S16384 main_cst_1
  let main_v18 : IVec S16384 1 := cmpf .olt main_v16 main_v17
  let main_v19 : IVec S16384 1 := andi main_v14 main_v18
  let main_cst_2 : FVec F S_ .f32 := constant S_ .f32 0x42C80000#32
  fn_part1 (F := F) main_v12 main_v19 main_cst_2
-- ==== Kernel.lean ====
abbrev S16384x11 : Shape := ⟨2, ![16384, 11]⟩
abbrev S16384x10 : Shape := ⟨2, ![16384, 10]⟩
abbrev S16384x1 : Shape := ⟨2, ![16384, 1]⟩
abbrev S16384 : Shape := ⟨1, ![16384]⟩
abbrev S512 : Shape := ⟨1, ![512]⟩
abbrev S512x10 : Shape := ⟨2, ![512, 10]⟩
abbrev S_ : Shape := ⟨0, ![]⟩
abbrev S16 : Shape := ⟨1, ![16]⟩

abbrev nBuf : Table → Nat
  | .hbm => 12
  | .local .scVector .vmem => 7
  | _ => 0

abbrev bufTy : (tb : Table) → Fin (nBuf tb) → BufTy
  | .hbm, ⟨0, _⟩ => ⟨S16384x11, .f32⟩
  | .hbm, ⟨1, _⟩ => ⟨S16384x11, .f32⟩
  | .hbm, ⟨2, _⟩ => ⟨S16384x10, .f32⟩
  | .hbm, ⟨3, _⟩ => ⟨S16384x1, .f32⟩
  | .hbm, ⟨4, _⟩ => ⟨S16384, .f32⟩
  | .hbm, ⟨5, _⟩ => ⟨S16384x1, .f32⟩
  | .hbm, ⟨6, _⟩ => ⟨S16384, .f32⟩
  | .hbm, ⟨7, _⟩ => ⟨S16384x1, .f32⟩
  | .hbm, ⟨8, _⟩ => ⟨S16384, .f32⟩
  | .hbm, ⟨9, _⟩ => ⟨S16384x1, .f32⟩
  | .hbm, ⟨10, _⟩ => ⟨S16384, .f32⟩
  | .hbm, ⟨11, _⟩ => ⟨S16384, .f32⟩
  | .local .scVector .vmem, ⟨0, _⟩ => ⟨S512, .f32⟩
  | .local .scVector .vmem, ⟨1, _⟩ => ⟨S512, .f32⟩
  | .local .scVector .vmem, ⟨2, _⟩ => ⟨S512, .f32⟩
  | .local .scVector .vmem, ⟨3, _⟩ => ⟨S512, .f32⟩
  | .local .scVector .vmem, ⟨4, _⟩ => ⟨S512x10, .f32⟩
  | .local .scVector .vmem, ⟨5, _⟩ => ⟨S512, .i32⟩
  | .local .scVector .vmem, ⟨6, _⟩ => ⟨S512, .f32⟩
  | _, _ => ⟨S16384x11, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v1_scv : Ref sig .scVector := ⟨.hbm, 4, rfl⟩
abbrev main_v3_scv : Ref sig .scVector := ⟨.hbm, 6, rfl⟩
abbrev main_v5_scv : Ref sig .scVector := ⟨.hbm, 8, rfl⟩
abbrev main_v7_scv : Ref sig .scVector := ⟨.hbm, 10, rfl⟩
abbrev main_arg2_scv : Ref sig .scVector := ⟨.hbm, 2, rfl⟩
abbrev main_v8_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  ![v2.toNat, 0]
@[reducible] def k0_t1_loop : Scf.Loop 32 :=
  let c0_i32_10 : BitVec 32 := 0#32
  let c32_i32 : BitVec 32 := 32#32
  let v31 : BitVec 32 := Scalar.addi c0_i32_10 c32_i32
  let c1_i32 : BitVec 32 := 1#32
  ⟨c0_i32_10, v31, c1_i32⟩
def k0_off3 (k0_t1 : Fin k0_t1_loop.trips) : Fin 1 → Nat :=
  let c0_i32_10 : BitVec 32 := 0#32
  let c1_i32 : BitVec 32 := 1#32
  let arg17 : BitVec 32 := Scf.iv c0_i32_10 c1_i32 k0_t1
  let c16_i32 : BitVec 32 := 16#32
  let v35 : BitVec 32 := Scalar.muli arg17 c16_i32
  let v36 : Index := Scalar.indexCast v35
  ![v36.toNat]
@[reducible] def k0_t2_loop : Scf.Loop 32 :=
  let c0_i32_15 : BitVec 32 := 0#32
  let c32_i32_16 : BitVec 32 := 32#32
  let v34 : BitVec 32 := Scalar.addi c0_i32_15 c32_i32_16
  let c1_i32_17 : BitVec 32 := 1#32
  ⟨c0_i32_15, v34, c1_i32_17⟩
def k0_off4 (k0_t2 : Fin k0_t2_loop.trips) : Fin 1 → Nat :=
  let c0_i32_15 : BitVec 32 := 0#32
  let c1_i32_17 : BitVec 32 := 1#32
  let arg17 : BitVec 32 := Scf.iv c0_i32_15 c1_i32_17 k0_t2
  let c16_i32 : BitVec 32 := 16#32
  let v35 : BitVec 32 := Scalar.muli arg17 c16_i32
  let v39 : Index := Scalar.indexCast v35
  ![v39.toNat]

def k0_chk1 (v38 : IVec S16 32) (v40 : IVec S16 32) : Prop :=
  (∀ a x, ((![v38, v40] : Fin 2 → IVec S16 32) a x).toNat < S512x10.size a)
theorem k0_idx1_inb : ∀ (v38 : IVec S16 32) (v40 : IVec S16 32) (k0_hw1 : k0_chk1 v38 v40), ∀ a x, ((![v38, v40] : Fin 2 → IVec S16 32) a x).toNat < S512x10.size a := fun v38 v40 k0_hw1 => k0_hw1
def k0_off5 (k0_t2 : Fin k0_t2_loop.trips) : Fin 1 → Nat :=
  let c0_i32_15 : BitVec 32 := 0#32
  let c1_i32_17 : BitVec 32 := 1#32
  let arg17 : BitVec 32 := Scf.iv c0_i32_15 c1_i32_17 k0_t2
  let c16_i32 : BitVec 32 := 16#32
  let v35 : BitVec 32 := Scalar.muli arg17 c16_i32
  let v42 : Index := Scalar.indexCast v35
  ![v42.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "t1" => some ((1 / 100 : ℝ) : EReal)
  | "t2" => some ((1 / 25 : ℝ) : EReal)
  | "t3" => some ((9 / 100 : ℝ) : EReal)
  | "t4" => some ((4 / 25 : ℝ) : EReal)
  | "t6" => some ((9 / 25 : ℝ) : EReal)
  | "t8" => some ((16 / 25 : ℝ) : EReal)
  | _ => none
-- ==== ReferenceIdeal.lean ====
abbrev S16384x11 : Shape := ⟨2, ![16384, 11]⟩
abbrev S16384x10 : Shape := ⟨2, ![16384, 10]⟩
abbrev S16384x1 : Shape := ⟨2, ![16384, 1]⟩
abbrev S16384 : Shape := ⟨1, ![16384]⟩
abbrev S1x16384 : Shape := ⟨2, ![1, 16384]⟩
abbrev S2x16384 : Shape := ⟨2, ![2, 16384]⟩
abbrev S_ : Shape := ⟨0, ![]⟩
abbrev S9 : Shape := ⟨1, ![9]⟩
abbrev S1x9 : Shape := ⟨2, ![1, 9]⟩
abbrev S16384x9 : Shape := ⟨2, ![16384, 9]⟩
abbrev S1x10 : Shape := ⟨2, ![1, 10]⟩

abbrev nBuf : Space → Nat
  | .hbm => 53
  | .vmem => 0
  | .smem => 0
  | _ => 0

abbrev bufTy : (tb : Table) → Fin (tcTables nBuf tb) → BufTy
  | .hbm, ⟨0, _⟩ => ⟨S16384x11, .f32⟩
  | .hbm, ⟨1, _⟩ => ⟨S16384x11, .f32⟩
  | .hbm, ⟨2, _⟩ => ⟨S16384x10, .f32⟩
  | .hbm, ⟨3, _⟩ => ⟨S16384x1, .f32⟩
  | .hbm, ⟨4, _⟩ => ⟨S16384, .f32⟩
  | .hbm, ⟨5, _⟩ => ⟨S16384x1, .f32⟩
  | .hbm, ⟨6, _⟩ => ⟨S16384, .f32⟩
  | .hbm, ⟨7, _⟩ => ⟨S1x16384, .f32⟩
  | .hbm, ⟨8, _⟩ => ⟨S1x16384, .f32⟩
  | .hbm, ⟨9, _⟩ => ⟨S2x16384, .f32⟩
  | .hbm, ⟨10, _⟩ => ⟨S16384x1, .f32⟩
  | .hbm, ⟨11, _⟩ => ⟨S16384, .f32⟩
  | .hbm, ⟨12, _⟩ => ⟨S16384x1, .f32⟩
  | .hbm, ⟨13, _⟩ => ⟨S16384, .f32⟩
  | .hbm, ⟨14, _⟩ => ⟨S1x16384, .f32⟩
  | .hbm, ⟨15, _⟩ => ⟨S1x16384, .f32⟩
  | .hbm, ⟨16, _⟩ => ⟨S2x16384, .f32⟩
  | .hbm, ⟨17, _⟩ => ⟨S2x16384, .f32⟩
  | .hbm, ⟨18, _⟩ => ⟨S1x16384, .f32⟩
  | .hbm, ⟨19, _⟩ => ⟨S16384, .f32⟩
  | .hbm, ⟨20, _⟩ => ⟨S1x16384, .f32⟩
  | .hbm, ⟨21, _⟩ => ⟨S16384, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S9, .f32⟩
  | .hbm, ⟨31, _⟩ => ⟨S_, .f32⟩
  | .hbm, ⟨32, _⟩ => ⟨S9, .f32⟩
  | .hbm, ⟨33, _⟩ => ⟨S9, .f32⟩
  | .hbm, ⟨34, _⟩ => ⟨S9, .f32⟩
  | .hbm, ⟨35, _⟩ => ⟨S9, .f32⟩
  | .hbm, ⟨36, _⟩ => ⟨S16384x1, .f32⟩
  | .hbm, ⟨37, _⟩ => ⟨S1x9, .f32⟩
  | .hbm, ⟨38, _⟩ => ⟨S16384x9, .f32⟩
  | .hbm, ⟨39, _⟩ => ⟨S16384x9, .f32⟩
  | .hbm, ⟨40, _⟩ => ⟨S16384x9, .i1⟩
  | .hbm, ⟨41, _⟩ => ⟨S16384x9, .i32⟩
  | .hbm, ⟨42, _⟩ => ⟨S_, .i32⟩
  | .hbm, ⟨43, _⟩ => ⟨S16384, .i32⟩
  | .hbm, ⟨44, _⟩ => ⟨S16384x1, .i32⟩
  | .hbm, ⟨45, _⟩ => ⟨S1x10, .i32⟩
  | .hbm, ⟨46, _⟩ => ⟨S16384x10, .i32⟩
  | .hbm, ⟨47, _⟩ => ⟨S16384x10, .i32⟩
  | .hbm, ⟨48, _⟩ => ⟨S16384x10, .i1⟩
  | .hbm, ⟨49, _⟩ => ⟨S16384x10, .f32⟩
  | .hbm, ⟨50, _⟩ => ⟨S16384x10, .f32⟩
  | .hbm, ⟨51, _⟩ => ⟨S_, .f32⟩
  | .hbm, ⟨52, _⟩ => ⟨S16384, .f32⟩
  | _, _ => ⟨S16384x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_v36 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Bucket.lean ====
/-
  What one row of the kernel computes, at any float values.

  A row has four numbers, the two coordinates of a point on either side. Its squared distance is
  `(x2 - x1)² + (y2 - y1)²`. Nine thresholds are compared with it, and the number of those that it
  reaches is the row's BUCKET: a word below ten. The row's result is the entry of the third argument
  at the row and at that column.

  `pay_bucket` says that a lane of the kernel's chain of operations is the bucket of the four numbers
  that the lane holds.
-/
module

public import proofs.«01_k».proof.Proof.Gen.KernelIdeal.Skeleton

@[expose] public section

noncomputable section

namespace Cert.Proof

open Cert.KernelIdeal Cert.KernelIdeal.Gen
open Idealize.ShloMosaic

variable {F : FTy → Type} [FloatOps F] [Named F]

/-- The squared distance of the points `(x1, y1)` and `(x2, y2)`, in the kernel's operations. -/
def sqDist (x1 y1 x2 y2 : F .f32) : F .f32 :=
  FloatOps.addf (FloatOps.mulf (FloatOps.subf x2 x1) (FloatOps.subf x2 x1))
    (FloatOps.mulf (FloatOps.subf y2 y1) (FloatOps.subf y2 y1))

/-- The word 1 where `t ≤ r`, and 0 elsewhere. -/
def reached (r t : F .f32) : BitVec 32 := (FloatOps.cmpf .oge r t).setWidth 32

/-- How many of the nine thresholds a squared distance reaches, in the kernel's order of adding. -/
def bucketOf (r : F .f32) : BitVec 32 :=
  0#32 + reached r (Named.named κ "t1" 0x3C23D70A#32) + reached r (Named.named κ "t2" 0x3D23D70A#32)
    + reached r (Named.named κ "t3" 0x3DB851EC#32) + reached r (Named.named κ "t4" 0x3E23D70A#32)
    + reached r (Scalar.ofBits .f32 0x3E800000#32) + reached r (Named.named κ "t6" 0x3EB851EC#32)
    + reached r (Scalar.ofBits .f32 0x3EFAE146#32) + reached r (Named.named κ "t8" 0x3F23D70A#32)
    + reached r (Scalar.ofBits .f32 0x3F4F5C2A#32)

/-- The bucket of a row. -/
def bucket (x1 y1 x2 y2 : F .f32) : BitVec 32 := bucketOf (sqDist x1 y1 x2 y2)

omit [Named F] in
theorem reached_le (r t : F .f32) : (reached r t).toNat ≤ 1 := by
  have h := (FloatOps.cmpf .oge r t : BitVec 1).isLt
  unfold reached
  rw [BitVec.toNat_setWidth]
  exact (Nat.mod_le _ _).trans (by omega)

/-- A bucket is a column of the third argument: it is below ten. -/
theorem bucketOf_lt (r : F .f32) : (bucketOf r).toNat < 10 := by
  unfold bucketOf
  have h := reached_le (F := F) r
  simp only [BitVec.toNat_add]
  have h1 := h (Named.named κ "t1" 0x3C23D70A#32)
  have h2 := h (Named.named κ "t2" 0x3D23D70A#32)
  have h3 := h (Named.named κ "t3" 0x3DB851EC#32)
  have h4 := h (Named.named κ "t4" 0x3E23D70A#32)
  have h5 := h (Scalar.ofBits .f32 0x3E800000#32)
  have h6 := h (Named.named κ "t6" 0x3EB851EC#32)
  have h7 := h (Scalar.ofBits .f32 0x3EFAE146#32)
  have h8 := h (Named.named κ "t8" 0x3F23D70A#32)
  have h9 := h (Scalar.ofBits .f32 0x3F4F5C2A#32)
  have h0 : (0#32).toNat = 0 := rfl
  omega

theorem bucket_lt (x1 y1 x2 y2 : F .f32) : (bucket x1 y1 x2 y2).toNat < 10 := bucketOf_lt _

/-- A lane of the kernel's chain: the bucket of what the four loaded vectors hold in that lane. -/
theorem pay_bucket (x2 x1 y2 y1 : FVec F S16 .f32) (j : S16.Idx) :
    k0_pay1 (F := F) k0_pay3 k0_pay4 k0_pay5 k0_pay6 k0_pay7 k0_pay8 k0_pay9 k0_pay10 k0_pay11 x2 x1 y2 y1 j
      = bucket (x1 j) (y1 j) (x2 j) (y2 j) := rfl

end Cert.Proof

end
-- ==== Proof.Setup.lean ====
/-
  The kernel as its launch is reasoned about: the program's tables, the resource algebra, the arrays and
  the blocks of them that a vector subcore works on.

  The kernel runs on two SparseCores of sixteen vector subcores each. Subcore `i` of SparseCore `c` takes
  the 512 rows from `1024 * i + 512 * c` on. The thirty-two blocks do not meet, and together they are all
  16384 rows.
-/
module

public import proofs.«01_k».proof.Proof.Bucket
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdx
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's tables -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The four columns that the host cuts out, the table, and the result, on device `d`. -/
abbrev aLoc (d : Dev nD) : Loc nD τ sig := (SparseCore.T d).loc main_v1
abbrev bLoc (d : Dev nD) : Loc nD τ sig := (SparseCore.T d).loc main_v3
abbrev cLoc (d : Dev nD) : Loc nD τ sig := (SparseCore.T d).loc main_v5
abbrev eLoc (d : Dev nD) : Loc nD τ sig := (SparseCore.T d).loc main_v7
abbrev tLoc (d : Dev nD) : Loc nD τ sig := (SparseCore.T d).loc main_arg2
abbrev oLoc (d : Dev nD) : Loc nD τ sig := (SparseCore.T d).loc main_v8

/-- A column of numbers, and the table of ten numbers to a row. -/
abbrev Col (F : FTy → Type) : Type := S16384.Idx → F .f32
abbrev Tab (F : FTy → Type) : Type := S16384x10.Idx → F .f32

/-- An array's cell at a row and a column. -/
def cell {n k : ℕ} (r : Fin n) (c : Fin k) : (⟨2, ![n, k]⟩ : Shape).Idx := ValueIdx.ix2 r c

/-- The row that an index of a column names. -/
def rowOf {n : ℕ} (j : (⟨1, ![n]⟩ : Shape).Idx) : Fin n := j 0

/-- In each row, the table's entry at the row's bucket. -/
def entryAt {n : ℕ} (t : (⟨2, ![n, 10]⟩ : Shape).Idx → F .f32) (g : (⟨1, ![n]⟩ : Shape).Idx → BitVec 32) (hg : ∀ j, (g j).toNat < 10) :
    (⟨1, ![n]⟩ : Shape).Idx → F .f32 := fun j => t (cell (rowOf j) ⟨(g j).toNat, hg j⟩)

/-- The kernel's result: the buckets are those of the rows' two points. -/
def picked [FloatOps F] [Named F] (x1 y1 x2 y2 : Col F) (t : Tab F) : Col F :=
  entryAt t (fun i => bucket (x1 i) (y1 i) (x2 i) (y2 i)) fun _ => bucket_lt _ _ _ _

/-! ## The blocks -/

/-- Which subcore: `c` of the two SparseCores, `i` of the sixteen subcores. -/
def at_ (c : Fin (grid0.bound 0)) (i : Fin (grid0.bound 1)) : grid0.Coords :=
  fun | 0 => c | 1 => i | ⟨_ + 2, h⟩ => absurd h (Nat.not_lt.2 (Nat.le_add_left _ _))

/-- The subcore's rows of a column, and of the table. -/
abbrev rowsR (L : grid0.Coords) : Rect S16384 := Rect.unit (s := S16384) (k0_off1 L) S512.size (k0_off1_inb L)
abbrev rowsT (L : grid0.Coords) : Rect S16384x10 := Rect.unit (s := S16384x10) (k0_off2 L) S512x10.size (k0_off2_inb L)

/-- The subcore's rows of a column's contents, and of the table's. -/
def rowsOf (L : grid0.Coords) (f : Col F) : S512.Idx → F .f32 := fun j => f ((rowsR L).emb j)
def rowsOfT (L : grid0.Coords) (f : Tab F) : S512x10.Idx → F .f32 := fun j => f ((rowsT L).emb j)

/-- The subcore's first row. -/
abbrev base (L : grid0.Coords) : ℕ := 1024 * (L 1).val + 512 * (L 0).val

theorem mem_rowsR {L : grid0.Coords} {j : S16384.Idx} : j ∈ (rowsR L).set ↔ base L ≤ (j 0).val ∧ (j 0).val < base L + 512 := by
  rw [Rect.mem_set_unit]
  simp only [k0_off1_eq]
  constructor
  · intro h; exact h 0
  · intro h a
    obtain rfl : a = 0 := Subsingleton.elim _ _
    exact h

theorem mem_rowsT {L : grid0.Coords} {j : S16384x10.Idx} : j ∈ (rowsT L).set ↔ base L ≤ (j 0).val ∧ (j 0).val < base L + 512 := by
  rw [Rect.mem_set_unit]
  simp only [k0_off2_eq]
  constructor
  · intro h; exact h 0
  · intro h a
    match a with
    | 0 => exact h
    | 1 => exact ⟨Nat.zero_le _, (j 1).isLt.trans_le (by simp)⟩

theorem rowsR_emb_val (L : grid0.Coords) (j : S512.Idx) : (rowOf ((rowsR L).emb j)).val = base L + (rowOf j).val := by
  show k0_off1 L 0 + 1 * (j 0).val = base L + (j 0).val
  rw [k0_off1_eq, one_mul]
  rfl

theorem rowsT_emb (L : grid0.Coords) (j : S512.Idx) (q : Fin 10) : (rowsT L).emb (cell (rowOf j) q) = cell (rowOf ((rowsR L).emb j)) q := by
  funext a
  apply Fin.ext
  match a with
  | 0 =>
    refine Eq.trans ?_ (rowsR_emb_val L j).symm
    show k0_off2 L 0 + 1 * (j 0).val = base L + (j 0).val
    rw [k0_off2_eq, one_mul]
    rfl
  | 1 =>
    show k0_off2 L 1 + 1 * q.val = q.val
    rw [k0_off2_eq, one_mul]
    exact Nat.zero_add _

/-- Picking from the subcore's rows gives the subcore's rows of the whole result. -/
theorem entryAt_rows [FloatOps F] [Named F] (L : grid0.Coords) (x1 y1 x2 y2 : Col F) (t : Tab F) :
    entryAt (rowsOfT L t) (fun j => bucket (rowsOf L x1 j) (rowsOf L y1 j) (rowsOf L x2 j) (rowsOf L y2 j)) (fun _ => bucket_lt _ _ _ _)
      = rowsOf L (picked x1 y1 x2 y2 t) :=
  funext fun j => congrArg t (rowsT_emb L j _)

/-- The subcores, as pairs. -/
abbrev Sub : Type := Fin 2 × Fin 16
abbrev sub (p : Sub) : grid0.Coords := at_ p.1 p.2

theorem base_sub (p : Sub) : base (sub p) = 1024 * p.2.val + 512 * p.1.val := rfl

/-- Two subcores whose blocks share a row are one. -/
theorem sub_eq {p q : Sub} {n : ℕ} (hp : base (sub p) ≤ n ∧ n < base (sub p) + 512) (hq : base (sub q) ≤ n ∧ n < base (sub q) + 512) : p = q := by
  rw [base_sub] at hp hq
  have h1 := p.1.isLt; have h2 := q.1.isLt
  exact Prod.ext (Fin.ext (by omega)) (Fin.ext (by omega))

/-- Each of the 16384 rows is in a subcore's block. -/
theorem exists_sub {n : ℕ} (h : n < 16384) : ∃ p : Sub, base (sub p) ≤ n ∧ n < base (sub p) + 512 :=
  ⟨(⟨n / 512 % 2, by omega⟩, ⟨n / 1024, by omega⟩), by rw [base_sub]; dsimp only; omega, by rw [base_sub]; dsimp only; omega⟩

theorem rowsR_disjoint : ∀ p ∈ (Finset.univ : Finset Sub), ∀ q ∈ (Finset.univ : Finset Sub), p ≠ q → Disjoint (rowsR (sub p)).set (rowsR (sub q)).set :=
  fun _ _ _ _ h => Finset.disjoint_left.mpr fun _ hp hq => h (sub_eq (mem_rowsR.mp hp) (mem_rowsR.mp hq))
theorem rowsT_disjoint : ∀ p ∈ (Finset.univ : Finset Sub), ∀ q ∈ (Finset.univ : Finset Sub), p ≠ q → Disjoint (rowsT (sub p)).set (rowsT (sub q)).set :=
  fun _ _ _ _ h => Finset.disjoint_left.mpr fun _ hp hq => h (sub_eq (mem_rowsT.mp hp) (mem_rowsT.mp hq))

theorem rowsR_cover : (Finset.univ : Finset Sub).biUnion (fun p => (rowsR (sub p)).set) = Finset.univ :=
  Finset.eq_univ_iff_forall.mpr fun j =>
    let ⟨p, hp⟩ := exists_sub (j 0).isLt
    Finset.mem_biUnion.mpr ⟨p, Finset.mem_univ _, mem_rowsR.mpr hp⟩
theorem rowsT_cover : (Finset.univ : Finset Sub).biUnion (fun p => (rowsT (sub p)).set) = Finset.univ :=
  Finset.eq_univ_iff_forall.mpr fun j =>
    let ⟨p, hp⟩ := exists_sub (j 0).isLt
    Finset.mem_biUnion.mpr ⟨p, Finset.mem_univ _, mem_rowsT.mpr hp⟩

end Cert.Proof

end
-- ==== Proof.Columns.lean ====
/-
  A column of a point array. The host cuts a column out as an array of one column and then drops that axis;
  both steps together read the array at the row and the column's number.
-/
module

public import proofs.«01_k».proof.Proof.Setup
public import Idealize.ShloMosaic.Lib.Pipeline.Value
public import Idealize.ShloMosaic.Lib.Pointwise.Reshape

@[expose] public section

noncomputable section

namespace Cert.Proof

open Idealize.ShloMosaic

/-- Column `c` of an array of rows. -/
def column {α : Type} {n k : ℕ} (x : (⟨2, ![n, k]⟩ : Shape).Idx → α) (c : Fin k) : (⟨1, ![n]⟩ : Shape).Idx → α :=
  fun j => x (cell (rowOf j) c)

/-- Cutting column `c` out and dropping the unit axis is `column`. -/
theorem column_of_cut {α : Type} {n k : ℕ} (x : (⟨2, ![n, k]⟩ : Shape).Idx → α) (c : Fin k)
    (off : Fin 2 → ℕ) (h : (⟨2, ![n, k]⟩ : Shape).Slices off ⟨2, ![n, 1]⟩) (h' : (⟨2, ![n, 1]⟩ : Shape).ShapeCasts ⟨1, ![n]⟩)
    (h0 : off 0 = 0) (h1 : off 1 = c.val) :
    shapeCast ⟨1, ![n]⟩ (extractStridedSlice ⟨2, ![n, 1]⟩ off x h) h' = column x c := by
  funext j
  have hr : ((⟨2, ![n, 1]⟩ : Shape).rowMajor (cell (rowOf j) (0 : Fin 1))).val = ((⟨1, ![n]⟩ : Shape).rowMajor j).val := by
    rw [rowMajor_val2 _ 1 rfl, rowMajor_val1]
    show (j 0).val * 1 + 0 = (j 0).val
    omega
  rw [shapeCast_apply _ h' j (cell (rowOf j) (0 : Fin 1)) hr]
  refine extractStridedSlice_apply off x h _ (cell (rowOf j) c) fun a => ?_
  match a with
  | 0 => rw [h0]; exact (Nat.zero_add _).symm
  | 1 => rw [h1]; exact (Nat.add_zero _).symm

end Cert.Proof

end
-- ==== Proof.Tile.lean ====
/-
  One vector subcore's work. It brings its 512 rows of the four columns and of the table into its own
  scratch, computes each row's bucket, picks the row's table entry at that bucket, and writes the 512 picked
  entries out. What it leaves in its block of the result is `picked` of the five arrays.
-/
module

public import proofs.«01_k».proof.Proof.Setup
public import Idealize.ShloMosaic.Lib.WritesUnit

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The memrefs that the subcore's program names -/

abbrev hX1 : Memref sig .scVector .hbm S16384 .f32 := Memref.whole main_v1_scv
abbrev hY1 : Memref sig .scVector .hbm S16384 .f32 := Memref.whole main_v3_scv
abbrev hX2 : Memref sig .scVector .hbm S16384 .f32 := Memref.whole main_v5_scv
abbrev hY2 : Memref sig .scVector .hbm S16384 .f32 := Memref.whole main_v7_scv
abbrev hTab : Memref sig .scVector .hbm S16384x10 .f32 := Memref.whole main_arg2_scv
abbrev hOut : Memref sig .scVector .hbm S16384 .f32 := Memref.whole main_v8_scv
abbrev vX1 : Memref sig .scVector .vmem S512 .f32 := Memref.whole cc0_scratch0
abbrev vY1 : Memref sig .scVector .vmem S512 .f32 := Memref.whole cc0_scratch1
abbrev vX2 : Memref sig .scVector .vmem S512 .f32 := Memref.whole cc0_scratch2
abbrev vY2 : Memref sig .scVector .vmem S512 .f32 := Memref.whole cc0_scratch3
abbrev vTab : Memref sig .scVector .vmem S512x10 .f32 := Memref.whole cc0_scratch4
abbrev vIdx : Memref sig .scVector .vmem S512 .i32 := Memref.whole cc0_scratch5
abbrev vOut : Memref sig .scVector .vmem S512 .f32 := Memref.whole cc0_scratch6

abbrev cV (L : grid0.Coords) : Fin τ.nSC := (L 0).castLE hcore0
abbrev jV (L : grid0.Coords) : Fin τ.nSub := (L 1).castLE hsub0
/-- The subcore's thread. -/
abbrev vT (d : Dev nD) (L : grid0.Coords) : Thread nD τ := V d (cV L) (jV L)

/-- A column's block, and the table's, as the subcore's copies name them. -/
abbrev blk (L : grid0.Coords) (b : Memref sig .scVector .hbm S16384 .f32) : Memref sig .scVector .hbm S512 .f32 :=
  b.slice (Rect.unit (s := S16384) (k0_off1 L) S512.size (k0_off1_inb L)) (fun _ => rfl)
abbrev blkT (L : grid0.Coords) (b : Memref sig .scVector .hbm S16384x10 .f32) : Memref sig .scVector .hbm S512x10 .f32 :=
  b.slice (Rect.unit (s := S16384x10) (k0_off2 L) S512x10.size (k0_off2_inb L)) (fun _ => rfl)

/-- The cells of the subcore's three semaphores. -/
abbrev zCell (d : Dev nD) (L : grid0.Coords) : GSem nD τ sig := (vT d L, .dma cc0_scratch7.sem)
abbrev gCell (d : Dev nD) (L : grid0.Coords) : GSem nD τ sig := (vT d L, .dma cc0_scratch8.sem)
abbrev oCell (d : Dev nD) (L : grid0.Coords) : GSem nD τ sig := (vT d L, .dma cc0_scoped0.sem)

/-- The whole of a memref at given contents. -/
abbrev held {sp : Space} {s : Shape} {e : EltTy} (d : Dev nD) (L : grid0.Coords) (b : Memref sig .scVector sp s e)
    (f : Buf (Elt F) (b.view.loc (vT d L))) : sProp 𝕄 := b.view.loc (vT d L) ↦[b.view.set]{fullShare} f

/-- A scratch array held by its memref is the array held. -/
theorem held_whole (d : Dev nD) (L : grid0.Coords) (b : Ref sig .scVector) (f : Buf (Elt F) ((vT d L).loc b)) :
    held d L (Memref.whole b) f = ((vT d L).loc b ↦{fullShare} f : sProp 𝕄) :=
  congrArg (fun S => ((vT d L).loc b ↦[S]{fullShare} f : sProp 𝕄)) (View.set_whole b)

/-! ## Chunks of sixteen

A trip of either loop works on lanes `16 * k` to `16 * k + 15` of the scratch. -/

theorem chunk_idx {off : Fin S512.rank → ℕ} {inb : ∀ a, off a + S16.size a ≤ S512.size a} {k : ℕ} (hoff : off = ![16 * k])
    (x : S16.Idx) (j : S512.Idx) (h : (j 0).val = 16 * k + (x 0).val) : (Rect.unit (s := S512) off S16.size inb).toLoadRect.idx x = j := by
  subst hoff
  funext a
  obtain rfl : a = 0 := Subsingleton.elim _ _
  apply Fin.ext
  rw [LoadRect.idx_apply]
  show 16 * k + 1 * (x 0).val = (j 0).val
  omega

/-- After a chunk is stored: the stored lanes hold what was stored, the others what they held. -/
theorem stored_chunk {κ : Kind} {sp : Space} {e : EltTy} {Val : EltTy → Type} (v : View sig κ sp S512 e) (f : v.ty.Contents Val) {off : Fin S512.rank → ℕ}
    (inb : ∀ a, off a + S16.size a ≤ S512.size a) {k : ℕ} (hoff : off = ![16 * k]) (w : S16.Idx → Val e) (r : S512.Idx → Val e)
    (hold : ∀ j : S512.Idx, (j 0).val < 16 * k → v.read Val f j = r j)
    (hnew : ∀ (x : S16.Idx) (j : S512.Idx), (j 0).val = 16 * k + (x 0).val → w x = r j) (j : S512.Idx) (hj : (j 0).val < 16 * (k + 1)) :
    v.read Val (v.writes Val f [⟨Rect.unit off S16.size inb, w⟩]) j = r j := by
  rcases Nat.lt_or_ge (j 0).val (16 * k) with h | h
  · rw [View.read_writes_cons_unit_of_not_mem v f inb w [] j hoff 0 (.inl h)]
    exact hold j h
  · have hx : (j 0).val = 16 * k + ((j 0).val - 16 * k) := by omega
    have e := View.read_writes_cons_unit_of_mem v f inb w [] j
      (fun a => ⟨(j 0).val - 16 * k, by obtain rfl : a = 0 := Subsingleton.elim _ _; show _ < 16; omega⟩) hoff
      (fun a => by obtain rfl : a = 0 := Subsingleton.elim _ _; exact hx)
    rw [e]
    exact hnew _ _ hx

/-! ## The first loop: the buckets -/

/-- Before trip `k`: the four columns' rows are held, and the first `16 * k` lanes of the index scratch hold their buckets. -/
def inv1 (d : Dev nD) (L : grid0.Coords) (a b c e : S512.Idx → F .f32) (k : ℕ) (_ : Unit) : sProp 𝕄 :=
  iprop(held d L vX1 a ∗ held d L vY1 b ∗ held d L vX2 c ∗ held d L vY2 e
    ∗ ∃ g : S512.Idx → BitVec 32, ⌜∀ j : S512.Idx, (j 0).val < 16 * k → g j = bucket (a j) (b j) (c j) (e j)⌝ ∗ held (F := F) d L vIdx g)

theorem trip1 [∀ e, Nonempty (Elt F e)] (d : Dev nD) (L : grid0.Coords) (a b c e : S512.Idx → F .f32) (k : Fin k0_t1_loop.trips) (u : Unit) :
    inv1 d L a b c e k u ⊢ wp frame (wpE (defs₀ (F := F)) 𝒱₀ (vT d L) none) Set.univ
      (k0_t1_body L hX1 (Memref.isWhole_whole _) hY1 (Memref.isWhole_whole _) hX2 (Memref.isWhole_whole _) hY2 (Memref.isWhole_whole _)
            hTab (Memref.isWhole_whole _) hOut (Memref.isWhole_whole _)
            vX1 (Memref.isWhole_whole _) vY1 (Memref.isWhole_whole _) vX2 (Memref.isWhole_whole _) vY2 (Memref.isWhole_whole _)
            vTab (Memref.isWhole_whole _) vIdx (Memref.isWhole_whole _) vOut (Memref.isWhole_whole _) cc0_scratch7 cc0_scratch8 cc0_scoped0
            (k0_pay3 (F := F)) (k0_pay4 (F := F)) (k0_pay5 (F := F)) (k0_pay6 (F := F)) (k0_pay7 (F := F)) (k0_pay8 (F := F)) (k0_pay9 (F := F)) (k0_pay10 (F := F)) (k0_pay11 (F := F)) k u)
      (fun u' => inv1 d L a b c e (k + 1) u') := by
  unfold inv1 k0_t1_body
  iintro ⟨HA, HB, HC, HE, %g, %hg, HI⟩
  sl_exec
  sl_step
  isplitl [HA]; · iexact HA
  isplitl [HB]; · iexact HB
  isplitl [HC]; · iexact HC
  isplitl [HE]; · iexact HE
  iexists _; isplitr; swap
  · iexact HI
  · ipureintro
    refine stored_chunk (Val := Elt F) vIdx.view g (k0_off3_inb k) (k0_off3_eq k) _ _ hg fun x j hx => ?_
    exact (pay_bucket _ _ _ _ x).trans (congrArg (fun i => bucket (a i) (b i) (c i) (e i)) (chunk_idx (k0_off3_eq k) x j hx))

/-! ## The second loop: the picks -/

/-- Before trip `k`: the table's rows and the buckets are held, and the first `16 * k` lanes of the output scratch hold
    their rows' table entries at their buckets. -/
def inv2 (d : Dev nD) (L : grid0.Coords) (t : S512x10.Idx → F .f32) (g : S512.Idx → BitVec 32) (hg : ∀ j, (g j).toNat < 10) (k : ℕ) (_ : Unit) : sProp 𝕄 :=
  iprop(held d L vTab t ∗ held (F := F) d L vIdx g
    ∗ ∃ o : S512.Idx → F .f32, ⌜∀ j : S512.Idx, (j 0).val < 16 * k → o j = entryAt t g hg j⌝ ∗ held d L vOut o)

/-- Lane `x` of trip `k` picks from row `16 * k + x`. -/
theorem row_lane (k : Fin k0_t2_loop.trips) (x : S16.Idx) :
    (k0_pay2 (iota .scVector S16 32 [0] iota_S16_d0_w32_scVector) k x).toNat = 16 * k.val + (x 0).val := by
  have hk : k.val < 32 := k.isLt
  have hx : (x 0).val < 16 := (x 0).isLt
  show (BitVec.ofNat 32 (0 * 16 + (x 0).val) + (Scf.iv 0#32 1#32 k : BitVec 32) * 16#32).toNat = _
  simp [Scf.iv, BitVec.toNat_add, BitVec.toNat_mul]
  omega

/-- Every pick is inside the table's rows: a row below 512, a bucket below ten. -/
theorem picks_inb (g : S512.Idx → BitVec 32) (hg : ∀ j, (g j).toNat < 10) (k : Fin k0_t2_loop.trips) :
    k0_chk1 (k0_pay2 (iota .scVector S16 32 [0] iota_S16_d0_w32_scVector) k)
      (vIdx.view.readAt (Elt F) (Rect.unit (s := S512) (k0_off4 k) S16.size (k0_off4_inb k)).toLoadRect g) := by
  intro a x
  match a with
  | 0 =>
    have hk : k.val < 32 := k.isLt
    have hx : (x 0).val < 16 := (x 0).isLt
    show (k0_pay2 (iota .scVector S16 32 [0] iota_S16_d0_w32_scVector) k x).toNat < 512
    rw [row_lane]; omega
  | 1 => exact hg _

/-- The table's rows, as an indexed load holds them and reads them. -/
theorem held_vTab (d : Dev nD) (L : grid0.Coords) (t : S512x10.Idx → F .f32) :
    held d L vTab t = ((vTab.access (.whole S512x10)).loc (vT d L) ↦{fullShare} t : sProp 𝕄) := held_whole d L cc0_scratch4 t
theorem read_vTab (t : S512x10.Idx → F .f32) : (vTab.access (.whole S512x10)).read (Elt F) t = t :=
  funext fun y => congrArg t (Rect.emb_whole_apply _ y)

theorem trip2 [∀ e, Nonempty (Elt F e)] (d : Dev nD) (L : grid0.Coords) (t : S512x10.Idx → F .f32) (g : S512.Idx → BitVec 32) (hg : ∀ j, (g j).toNat < 10)
    (k : Fin k0_t2_loop.trips) (u : Unit) :
    inv2 d L t g hg k u ⊢ wp frame (wpE (defs₀ (F := F)) 𝒱₀ (vT d L) none) Set.univ
      (k0_t2_body L hX1 (Memref.isWhole_whole _) hY1 (Memref.isWhole_whole _) hX2 (Memref.isWhole_whole _) hY2 (Memref.isWhole_whole _)
            hTab (Memref.isWhole_whole _) hOut (Memref.isWhole_whole _)
            vX1 (Memref.isWhole_whole _) vY1 (Memref.isWhole_whole _) vX2 (Memref.isWhole_whole _) vY2 (Memref.isWhole_whole _)
            vTab (Memref.isWhole_whole _) vIdx (Memref.isWhole_whole _) vOut (Memref.isWhole_whole _) cc0_scratch7 cc0_scratch8 cc0_scoped0
            (iota .scVector S16 32 [0] iota_S16_d0_w32_scVector) k u)
      (fun u' => inv2 d L t g hg (k + 1) u') := by
  unfold inv2 k0_t2_body
  iintro ⟨HT, HI, %o, %ho, HO⟩
  sl_exec
  rw [wp_assume_of _ _ _ _ (show k0_chk1 (trip2.sl.v38 k) _ from picks_inb g hg k)]
  sl_exec
  ihave HT' := (Entails.of_eq (held_vTab d L t)) $$ HT
  iapply (SparseCore.wp_vectorLoadIdx 𝒱₀ (vT d L) none Set.univ (base := vTab) (S := Finset.univ) (q := fullShare) (Finset.subset_univ _)) $$ HT'; iintro HT'
  ihave HT := (Entails.of_eq (held_vTab d L t).symm) $$ HT'
  sl_exec
  sl_step
  isplitl [HT]; · iexact HT
  isplitl [HI]; · iexact HI
  iexists _; isplitr; swap
  · iexact HO
  · ipureintro
    refine stored_chunk (Val := Elt F) vOut.view o (k0_off5_inb k) (k0_off5_eq k) _ _ ho fun x j hx => ?_
    refine (congrFun (read_vTab t) _).trans (congrArg t (funext fun a => Fin.ext ?_))
    match a with
    | 0 => exact (row_lane k x).trans hx.symm
    | 1 => exact congrArg (fun i => (g i).toNat) (chunk_idx (k0_off4_eq k) x j hx)

/-- What a copy lands: a memref written whole with what `g` reads is the memref at `g`. -/
theorem landed {sp : Space} {s : Shape} {e : EltTy} (d : Dev nD) (L : grid0.Coords) (b : Memref sig .scVector sp s e)
    {f g : Buf (Elt F) (b.view.loc (vT d L))} {r : s.Idx → Elt F e} (h : r = b.view.read (Elt F) g) :
    held d L b (b.view.writes (Elt F) f [⟨Rect.whole s, r⟩]) ⊢ held d L b g := by
  refine Entails.of_eq (pointsTo_congr fun i hi => ?_)
  obtain ⟨x, -, rfl⟩ := Finset.mem_map.mp hi
  have hr := congrFun ((View.read_writes_whole b.view f r).trans h) x
  rw [View.read_apply, View.read_apply] at hr
  exact (cast_inj _).mp hr

set_option maxHeartbeats 2000000 in
theorem tile_core [∀ e, Nonempty (Elt F e)] (d : Dev nD) (L : grid0.Coords) (O : CellTallies nD τ sig (HIx 1)) (W : Waits sig (HIx 1))
    (fA fB fC fE fO : Buf (Elt F) (aLoc d)) (fT : Buf (Elt F) (tLoc d))
    (gA gB gC gE gO : S512.Idx → F .f32) (gT : S512x10.Idx → F .f32) (gI : S512.Idx → BitVec 32)
    (_plan : Transfers.BatchOf (vT d L) (SemLoc.dma (sig := sig) cc0_scratch7.sem) 4) :
    iprop((held d L (blk L hX1) fA ∗ held d L (blk L hY1) fB ∗ held d L (blk L hX2) fC ∗ held d L (blk L hY2) fE ∗ held d L (blkT L hTab) fT ∗ held d L (blk L hOut) fO)
        ∗ (held d L vX1 gA ∗ held d L vY1 gB ∗ held d L vX2 gC ∗ held d L vY2 gE ∗ held d L vTab gT ∗ held d L vIdx gI ∗ held d L vOut gO)
        ∗ (semVal (zCell d L) 0 ∗ semVal (gCell d L) 0 ∗ semVal (oCell d L) 0)
        ∗ owes (vT d L) O W ∗ Transfers.MayWaits (vT d L) none O)
      ⊢ wp frame (wpE (defs₀ (F := F)) 𝒱₀ (vT d L) none) Set.univ
          (cc0__vfrho_body L hX1 (Memref.isWhole_whole _) hY1 (Memref.isWhole_whole _) hX2 (Memref.isWhole_whole _) hY2 (Memref.isWhole_whole _)
            hTab (Memref.isWhole_whole _) hOut (Memref.isWhole_whole _)
            vX1 (Memref.isWhole_whole _) vY1 (Memref.isWhole_whole _) vX2 (Memref.isWhole_whole _) vY2 (Memref.isWhole_whole _)
            vTab (Memref.isWhole_whole _) vIdx (Memref.isWhole_whole _) vOut (Memref.isWhole_whole _) cc0_scratch7 cc0_scratch8 cc0_scoped0)
          fun _ => iprop((held d L (blk L hX1) fA ∗ held d L (blk L hY1) fB ∗ held d L (blk L hX2) fC ∗ held d L (blk L hY2) fE ∗ held d L (blkT L hTab) fT
              ∗ held d L (blk L hOut) (picked fA fB fC fE fT))
            ∗ ((∃ f, held d L vX1 f) ∗ (∃ f, held d L vY1 f) ∗ (∃ f, held d L vX2 f) ∗ (∃ f, held d L vY2 f) ∗ (∃ f, held d L vTab f)
              ∗ (∃ f, held (F := F) d L vIdx f) ∗ (∃ f, held d L vOut f))
            ∗ (semVal (zCell d L) 0 ∗ semVal (gCell d L) 0 ∗ semVal (oCell d L) 0)
            ∗ ∃ W', ⌜∀ p ∈ W', p ∈ W ∨ p.2 = none⌝ ∗ owes (vT d L) O W') := by
  simp only [cc0__vfrho_body_eq_skeleton]; unfold cc0__vfrho_body_skel
  simp only [k0_part1_eq_skeleton]; unfold k0_part1_skel
  iintro ⟨⟨HA, HB, HC, HE, HT, HO⟩, ⟨JA, JB, JC, JE, JT, JI, JO⟩, ⟨Hz, Hg, Ho⟩, HW, Hmw⟩
  sl_exec
  ihave KA := (landed d L vX1 (g := rowsOf L fA) (show tile_core.sl.dma0 d L fA = _ from rfl)) $$ JA
  ihave KB := (landed d L vY1 (g := rowsOf L fB) (show tile_core.sl.dma1 d L fB = _ from rfl)) $$ JB
  ihave KC := (landed d L vX2 (g := rowsOf L fC) (show tile_core.sl.dma2 d L fC = _ from rfl)) $$ JC
  ihave KE := (landed d L vY2 (g := rowsOf L fE) (show tile_core.sl.dma3 d L fE = _ from rfl)) $$ JE
  sl_for (inv1 d L (rowsOf L fA) (rowsOf L fB) (rowsOf L fC) (rowsOf L fE)) $$ [KA KB KC KE JI]
  case region => exact fun k u => trip1 d L _ _ _ _ k u
  · unfold inv1
    isplitl [KA]; · iexact KA
    isplitl [KB]; · iexact KB
    isplitl [KC]; · iexact KC
    isplitl [KE]; · iexact KE
    iexists gI; isplitr; swap
    · iexact JI
    · ipureintro; intro j hj; exact absurd hj (by omega)
  iintro %_ HI
  unfold inv1
  icases HI with ⟨KA, KB, KC, KE, %g, %hg, JI⟩
  obtain rfl : g = fun j => bucket (rowsOf L fA j) (rowsOf L fB j) (rowsOf L fC j) (rowsOf L fE j) :=
    funext fun j => hg j (show (j 0).val < 16 * 32 from (j 0).isLt)
  sl_exec
  ihave KT := (landed d L vTab (g := rowsOfT L fT) (show tile_core.sl.dma0_1 d L fT = _ from rfl)) $$ JT
  sl_for (inv2 d L (rowsOfT L fT) _ (fun _ => bucket_lt _ _ _ _)) $$ [KT JI JO]
  case region => exact fun k u => trip2 d L _ _ _ k u
  · unfold inv2
    isplitl [KT]; · iexact KT
    isplitl [JI]; · iexact JI
    iexists gO; isplitr; swap
    · iexact JO
    · ipureintro; intro j hj; exact absurd hj (by omega)
  iintro %_ HI
  unfold inv2
  icases HI with ⟨KT, JI, %o, %ho, JO⟩
  obtain rfl : o = rowsOf L (picked fA fB fC fE fT) :=
    (funext fun j => ho j (show (j 0).val < 16 * 32 from (j 0).isLt)).trans (entryAt_rows L fA fB fC fE fT)
  sl_exec
  ihave KO := (landed d L (blk L hOut) (g := picked fA fB fC fE fT) (show tile_core.sl.dma0_2 d L fA fB fC fE fT = _ from rfl)) $$ HO
  sl_step
  isplitl [HA HB HC HE HT KO]
  · isplitl [HA]; · iexact HA
    isplitl [HB]; · iexact HB
    isplitl [HC]; · iexact HC
    isplitl [HE]; · iexact HE
    isplitl [HT]; · iexact HT
    iexact KO
  isplitl [KA KB KC KE KT JI JO]
  · isplitl [KA]; · iexists _; iexact KA
    isplitl [KB]; · iexists _; iexact KB
    isplitl [KC]; · iexists _; iexact KC
    isplitl [KE]; · iexists _; iexact KE
    isplitl [KT]; · iexists _; iexact KT
    isplitl [JI]; · iexists _; iexact JI
    iexists _; iexact JO
  isplitl [Hz Hg Ho]
  · isplitl [Hz]; · iexact Hz
    isplitl [Hg]; · iexact Hg
    iexact Ho
  iexists _; isplitr; swap
  · iexact HW
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact .inl hp

/-! ## The subcore's scratch and semaphores, out of all that it owns -/

/-- A scratch array of the subcore, among its device's arrays. -/
abbrev scr (L : grid0.Coords) (b : Ref sig .scVector) : DevRef τ sig := (Proc.scVector (cV L) (jV L)).devRef b

theorem scr_ne (L : grid0.Coords) {a b : Ref sig .scVector} (h : a ≠ b) : scr L a ≠ scr L b := fun e => h (Proc.devRef_injective _ e)

theorem scr_mem (L : grid0.Coords) (b : Ref sig .scVector) (h : (scr L b).owner = .proc (.scVector (cV L) (jV L))) :
    scr L b ∈ ownRefs (τ := τ) (sig := sig) (.scVector (cV L) (jV L)) :=
  SparseCore.Cfg.mem_ownRefs_of_owner (p := Proc.scVector (cV L) (jV L)) (b := scr L b) h

theorem ownBufs_V (d : Dev nD) (L : grid0.Coords) :
    (ownBufs (vT d L) : sProp 𝕄)
      = iprop((∃ f, (vT d L).loc cc0_scratch0 ↦{fullShare} f)
          ∗ (∃ f, (vT d L).loc cc0_scratch1 ↦{fullShare} f)
          ∗ (∃ f, (vT d L).loc cc0_scratch2 ↦{fullShare} f)
          ∗ (∃ f, (vT d L).loc cc0_scratch3 ↦{fullShare} f)
          ∗ (∃ f, (vT d L).loc cc0_scratch4 ↦{fullShare} f)
          ∗ (∃ f, (vT d L).loc cc0_scratch5 ↦{fullShare} f)
          ∗ (∃ f, (vT d L).loc cc0_scratch6 ↦{fullShare} f)
          ∗ bigSep ((((((((ownRefs (τ := τ) (.scVector (cV L) (jV L))).erase (scr L cc0_scratch0)).erase (scr L cc0_scratch1)).erase (scr L cc0_scratch2)).erase (scr L cc0_scratch3)).erase (scr L cc0_scratch4)).erase (scr L cc0_scratch5)).erase (scr L cc0_scratch6)) fun b => iprop(∃ f, ((d, b) : Loc nD τ sig) ↦{fullShare} f)) := by
  unfold SparseCore.Cfg.ownBufs
  refine (SparseCore.bigSep_erase' (scr_mem L cc0_scratch0 rfl)).trans ?_
  rw [SparseCore.bigSep_erase' (Finset.mem_erase.mpr ⟨scr_ne L (by decide), scr_mem L cc0_scratch1 rfl⟩),
    SparseCore.bigSep_erase' (Finset.mem_erase.mpr ⟨scr_ne L (by decide), Finset.mem_erase.mpr ⟨scr_ne L (by decide), scr_mem L cc0_scratch2 rfl⟩⟩),
    SparseCore.bigSep_erase' (Finset.mem_erase.mpr ⟨scr_ne L (by decide), Finset.mem_erase.mpr ⟨scr_ne L (by decide), Finset.mem_erase.mpr ⟨scr_ne L (by decide), scr_mem L cc0_scratch3 rfl⟩⟩⟩),
    SparseCore.bigSep_erase' (Finset.mem_erase.mpr ⟨scr_ne L (by decide), Finset.mem_erase.mpr ⟨scr_ne L (by decide), Finset.mem_erase.mpr ⟨scr_ne L (by decide), Finset.mem_erase.mpr ⟨scr_ne L (by decide), scr_mem L cc0_scratch4 rfl⟩⟩⟩⟩),
    SparseCore.bigSep_erase' (Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), scr_mem L cc0_scratch5 rfl⟩⟩⟩⟩⟩),
    SparseCore.bigSep_erase' (Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), scr_mem L cc0_scratch6 rfl⟩⟩⟩⟩⟩⟩)]

theorem ownSems0_V (d : Dev nD) (L : grid0.Coords) :
    (ownSems0 (vT d L) : sProp 𝕄)
      = iprop(semVal (zCell d L) 0 ∗ semVal (gCell d L) 0 ∗ semVal (oCell d L) 0
          ∗ bigSep ((((ownCells (vT d L)).erase (zCell d L)).erase (gCell d L)).erase (oCell d L)) fun g => semVal g 0) := by
  have hz : zCell d L ∈ ownCells (vT d L) :=
    mem_ownCells.mpr ⟨rfl, by show (SemLoc.dma cc0_scratch7.sem : SemLoc sig).isScoped .scVector = true; decide⟩
  have hg : gCell d L ∈ ownCells (vT d L) :=
    mem_ownCells.mpr ⟨rfl, by show (SemLoc.dma cc0_scratch8.sem : SemLoc sig).isScoped .scVector = true; decide⟩
  have ho : oCell d L ∈ ownCells (vT d L) :=
    mem_ownCells.mpr ⟨rfl, by show (SemLoc.dma cc0_scoped0.sem : SemLoc sig).isScoped .scVector = true; decide⟩
  have ne {a b : SemLoc sig} (h : a ≠ b) : ((vT d L, a) : GSem nD τ sig) ≠ (vT d L, b) := fun e => h (Prod.ext_iff.mp e).2
  unfold SparseCore.Cfg.ownSems0
  rw [SparseCore.bigSep_erase' hz, SparseCore.bigSep_erase' (Finset.mem_erase.mpr ⟨ne (by decide), hg⟩),
    SparseCore.bigSep_erase' (Finset.mem_erase.mpr ⟨ne (by decide), Finset.mem_erase.mpr ⟨ne (by decide), ho⟩⟩)]

/-! ## The subcore's body, over the arrays of its device -/

/-- A column's block held by the subcore's memref is the block of the array held; and the table's. -/
theorem held_blk (d : Dev nD) (L : grid0.Coords) (b : Ref sig .scVector) (r : Rect b.ty.shape) (h) (f : Buf (Elt F) ((vT d L).loc b)) :
    held d L ((Memref.whole b).slice r h) f = ((vT d L).loc b ↦[r.set]{fullShare} f : sProp 𝕄) :=
  congrArg (fun S => ((vT d L).loc b ↦[S]{fullShare} f : sProp 𝕄)) (View.set_slice_whole b r)

/-- The arrays' blocks that the subcore is handed: the four columns', the table's, and the result's at contents `o`. -/
def tilePts (d : Dev nD) (L : grid0.Coords) (x1 y1 x2 y2 : Col F) (t : Tab F) (o : Col F) : sProp 𝕄 :=
  iprop((aLoc d ↦[(rowsR L).set]{fullShare} x1) ∗ (bLoc d ↦[(rowsR L).set]{fullShare} y1) ∗ (cLoc d ↦[(rowsR L).set]{fullShare} x2)
    ∗ (eLoc d ↦[(rowsR L).set]{fullShare} y2) ∗ (tLoc d ↦[(rowsT L).set]{fullShare} t) ∗ (oLoc d ↦[(rowsR L).set]{fullShare} o))

theorem tilePts_held (d : Dev nD) (L : grid0.Coords) (x1 y1 x2 y2 : Col F) (t : Tab F) (o : Col F) :
    tilePts d L x1 y1 x2 y2 t o = iprop(held d L (blk L hX1) x1 ∗ held d L (blk L hY1) y1 ∗ held d L (blk L hX2) x2 ∗ held d L (blk L hY2) y2
      ∗ held d L (blkT L hTab) t ∗ held d L (blk L hOut) o) := by
  unfold tilePts
  rw [show held d L (blk L hX1) x1 = _ from held_blk d L main_v1_scv (rowsR L) _ x1, show held d L (blk L hY1) y1 = _ from held_blk d L main_v3_scv (rowsR L) _ y1,
    show held d L (blk L hX2) x2 = _ from held_blk d L main_v5_scv (rowsR L) _ x2, show held d L (blk L hY2) y2 = _ from held_blk d L main_v7_scv (rowsR L) _ y2,
    show held d L (blkT L hTab) t = _ from held_blk d L main_arg2_scv (rowsT L) _ t, show held d L (blk L hOut) o = _ from held_blk d L main_v8_scv (rowsR L) _ o]

/-- The subcore's work: from its blocks, its scratch and its semaphores, the same back, the result's block at `picked`. -/
theorem tile_body [∀ e, Nonempty (Elt F e)] (hF : (K (F := F)).Facts) (d : Dev nD) (L : grid0.Coords) (O : CellTallies nD τ sig (HIx 1)) (W : Waits sig (HIx 1))
    (hO : ∀ g, O g none = 0) (x1 y1 x2 y2 : Col F) (t : Tab F) (o : Col F) :
    iprop(levAts (K (F := F)).L (K (F := F)).lev ∗ emp ∗ tilePts d L x1 y1 x2 y2 t o
        ∗ scopedBufs (vT d L) ∗ scopedSems0 (vT d L) ∗ owes (vT d L) O W)
      ⊢ wp frame (wpE (defs₀ (F := F)) 𝒱₀ (vT d L) none) Set.univ
          (cc0__vfrho_body L hX1 (Memref.isWhole_whole _) hY1 (Memref.isWhole_whole _) hX2 (Memref.isWhole_whole _) hY2 (Memref.isWhole_whole _)
            hTab (Memref.isWhole_whole _) hOut (Memref.isWhole_whole _)
            vX1 (Memref.isWhole_whole _) vY1 (Memref.isWhole_whole _) vX2 (Memref.isWhole_whole _) vY2 (Memref.isWhole_whole _)
            vTab (Memref.isWhole_whole _) vIdx (Memref.isWhole_whole _) vOut (Memref.isWhole_whole _) cc0_scratch7 cc0_scratch8 cc0_scoped0)
          fun _ => iprop(tilePts d L x1 y1 x2 y2 t (picked x1 y1 x2 y2 t) ∗ scopedBufs (vT d L) ∗ scopedSems0 (vT d L)
            ∗ ∃ W', ⌜∀ p ∈ W', p ∈ W ∨ p.2 = none⌝ ∗ owes (vT d L) O W') := by
  rw [(K (F := F)).scopedBufs_V hF d (cV L) (jV L), SparseCore.Cfg.scopedSems0_V (Val := Elt F) d (cV L) (jV L), ownSems0_V, ownBufs_V, tilePts_held, tilePts_held]
  simp only [← held_whole]
  iintro ⟨#Hlv, -, Hp, ⟨⟨%gA, JA⟩, ⟨%gB, JB⟩, ⟨%gC, JC⟩, ⟨%gE, JE⟩, ⟨%gT, JT⟩, ⟨%gI, JI⟩, ⟨%gO, JO⟩, Hb⟩, ⟨Hz, Hg, Ho, Hs⟩, HW⟩
  ihave Hmw := ((K (F := F)).mayWaits_none (thr := vT d L) hO) $$ Hlv
  iapply (wp_wand_r frame (wpE (defs₀ (F := F)) 𝒱₀ (vT d L) none) Set.univ)
  isplitl [Hp JA JB JC JE JT JI JO Hz Hg Ho HW]
  · iapply (tile_core d L O W x1 y1 x2 y2 o t gA gB gC gE gO gT gI (Transfers.BatchOf.intro _ _ _))
    isplitl [Hp]; · iexact Hp
    isplitl [JA JB JC JE JT JI JO]
    · isplitl [JA]; · iexact JA
      isplitl [JB]; · iexact JB
      isplitl [JC]; · iexact JC
      isplitl [JE]; · iexact JE
      isplitl [JT]; · iexact JT
      isplitl [JI]; · iexact JI
      iexact JO
    isplitl [Hz Hg Ho]
    · isplitl [Hz]; · iexact Hz
      isplitl [Hg]; · iexact Hg
      iexact Ho
    isplitl [HW]; · iexact HW
    iexact Hmw
  · iintro %_ ⟨Hp, ⟨JA, JB, JC, JE, JT, JI, JO⟩, ⟨Hz, Hg, Ho⟩, HW⟩
    isplitl [Hp]; · iexact Hp
    isplitl [JA JB JC JE JT JI JO Hb]
    · isplitl [JA]; · iexact JA
      isplitl [JB]; · iexact JB
      isplitl [JC]; · iexact JC
      isplitl [JE]; · iexact JE
      isplitl [JT]; · iexact JT
      isplitl [JI]; · iexact JI
      isplitl [JO]; · iexact JO
      iexact Hb
    isplitl [Hz Hg Ho Hs]
    · isplitl [Hz]; · iexact Hz
      isplitl [Hg]; · iexact Hg
      isplitl [Ho]; · iexact Ho
      iexact Hs
    iexact HW

end Cert.Proof

end
-- ==== Proof.Launch.lean ====
/-
  The whole program's run. The host cuts the four columns out of the two point arrays and calls the kernel;
  each SparseCore is handed the blocks of its sixteen subcores, each subcore its own, and they all come back
  with the result's blocks filled. What is left at the end: the three arguments as they were, and the result
  at `picked` of the columns and the table.
-/
module

public import proofs.«01_k».proof.Proof.Columns
public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the launch leaves in the result -/

abbrev pLoc (d : Dev nD) : Loc nD τ sig := (SparseCore.T d).loc main_arg0
abbrev qLoc (d : Dev nD) : Loc nD τ sig := (SparseCore.T d).loc main_arg1

/-- The first and third coordinates of the first points, and of the second. -/
def X1 (d : Dev nD) : Col F := column (n := 16384) (k := 11) (m (pLoc d)) 0
def Y1 (d : Dev nD) : Col F := column (n := 16384) (k := 11) (m (pLoc d)) 2
def X2 (d : Dev nD) : Col F := column (n := 16384) (k := 11) (m (qLoc d)) 0
def Y2 (d : Dev nD) : Col F := column (n := 16384) (k := 11) (m (qLoc d)) 2
/-- The result. -/
def G (d : Dev nD) : Col F := picked (X1 m d) (Y1 m d) (X2 m d) (Y2 m d) (m (tLoc d))

/-! ## What the launch's signals carry -/

/-- A subcore's blocks before its work, and after. -/
abbrev before (d : Dev nD) (L : grid0.Coords) : sProp 𝕄 := tilePts d L (X1 m d) (Y1 m d) (X2 m d) (Y2 m d) (m (tLoc d)) (m (oLoc d))
abbrev done (d : Dev nD) (L : grid0.Coords) : sProp 𝕄 := tilePts d L (X1 m d) (Y1 m d) (X2 m d) (Y2 m d) (m (tLoc d)) (G m d)

def P : (K (F := F)).Pay (nD := nD) (Val := Elt F) (Name := ℕ) (U := UU) where
  st := fun q d c => match q with | 0 => bigSep (Finset.univ : Finset (Fin 16)) fun i => before m d (at_ c i)
  dn := fun q d c => match q with | 0 => bigSep (Finset.univ : Finset (Fin 16)) fun i => done m d (at_ c i)
  go := fun q d c i => match q with | 0 => before m d (at_ c i)
  td := fun q d c i => match q with | 0 => done m d (at_ c i)
  x := fun _ _ => iprop(emp)

instance tilePts_storable (d : Dev nD) (L : grid0.Coords) (x1 y1 x2 y2 : Col F) (t : Tab F) (o : Col F) :
    BI.Storable (upEmb : UEmb _ 𝕄) (tilePts d L x1 y1 x2 y2 t o) := by unfold tilePts; infer_instance

theorem shares_storable (Φ : Fin 16 → sProp 𝕄) (_ : ∀ i, BI.Storable (upEmb : UEmb _ 𝕄) (Φ i)) :
    BI.Storable (upEmb : UEmb _ 𝕄) (bigSep (Finset.univ : Finset (Fin 16)) Φ) := inferInstance

instance P_storable : (P (F := F) m).IsStorable where
  st q d c := match q with
    | 0 => shares_storable (fun i => before m d (at_ c i)) fun _ => tilePts_storable _ _ _ _ _ _ _ _
  dn q d c := match q with
    | 0 => shares_storable (fun i => done m d (at_ c i)) fun _ => tilePts_storable _ _ _ _ _ _ _ _
  go q d c i := match q with | 0 => (inferInstance : BI.Storable (upEmb : UEmb _ 𝕄) (before m d (at_ c i)))
  td q d c i := match q with | 0 => (inferInstance : BI.Storable (upEmb : UEmb _ 𝕄) (done m d (at_ c i)))

/-! ## The launch theorem's obligations -/

theorem defs₀_vector (c : Fin τ.nSC) (s : Fin τ.nSub) :
    defs₀ (F := F) (.scVector c s) 0 ()
      = SparseCore.onTile hcore0 hsub0 (fun c s => cc0__vfrho_body (at_ c s)
          hX1 (Memref.isWhole_whole _) hY1 (Memref.isWhole_whole _) hX2 (Memref.isWhole_whole _) hY2 (Memref.isWhole_whole _)
          hTab (Memref.isWhole_whole _) hOut (Memref.isWhole_whole _)
          vX1 (Memref.isWhole_whole _) vY1 (Memref.isWhole_whole _) vX2 (Memref.isWhole_whole _) vY2 (Memref.isWhole_whole _)
          vTab (Memref.isWhole_whole _) vIdx (Memref.isWhole_whole _) vOut (Memref.isWhole_whole _) cc0_scratch7 cc0_scratch8 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (at_ ⟨_, hc.1⟩ ⟨_, hc.2⟩) O W hO (X1 m d) (Y1 m d) (X2 m d) (Y2 m d) (m (tLoc d)) (m (oLoc d))).trans
    (wp_mono frame _ _ fun _ => obl_post)

/-- A SparseCore's share is its subcores' shares, before and after. -/
theorem vecSplit : (K (F := F)).VecSplit' (P m) 0 := by
  intro d c
  show (bigSep (Finset.univ : Finset (Fin 16)) fun i => before m d (at_ c i)) ⊢ |={Set.univ}=> iprop(
      (bigSep (Finset.univ : Finset (Fin 16)) fun i => before m d (at_ c i))
      ∗ ((bigSep (Finset.univ : Finset (Fin 16)) fun i => done m d (at_ c i)) -∗ bigSep (Finset.univ : Finset (Fin 16)) fun i => done m d (at_ c i)))
  iintro H; imodintro
  isplitl [H]; · iexact H
  iintro H; iexact H

/-! ## The launch element: the handshakes' rounds; nothing of the kernel's own -/

def u₀ : UU := (initOf (K (F := F)).hsCells (K (F := F)).hsToks, 1)

theorem none_held {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [none_held]; iempintro
  unfold P; dsimp only
  rw [bigSep_congr fun _ _ => none_held _, none_held]
  iempintro

/-! ## The arrays cut into the subcores' blocks -/

/-- The six arrays whole. -/
def wholes (d : Dev nD) (x1 y1 x2 y2 : Col F) (t : Tab F) (o : Col F) : sProp 𝕄 :=
  iprop((aLoc d ↦{fullShare} x1) ∗ (bLoc d ↦{fullShare} y1) ∗ (cLoc d ↦{fullShare} x2) ∗ (eLoc d ↦{fullShare} y2)
    ∗ (tLoc d ↦{fullShare} t) ∗ (oLoc d ↦{fullShare} o))

/-- An array whole is its blocks. -/
theorem whole_blocks (ℓ : Loc nD τ sig) (R : Sub → Finset (Idx ℓ))
    (hR : ∀ p ∈ (Finset.univ : Finset Sub), ∀ q ∈ (Finset.univ : Finset Sub), p ≠ q → Disjoint (R p) (R q))
    (hc : (Finset.univ : Finset Sub).biUnion R = Finset.univ) (f : Buf (Elt F) ℓ) :
    (ℓ ↦{fullShare} f : sProp 𝕄) = bigSep (Finset.univ : Finset Sub) fun p => ℓ ↦[R p]{fullShare} f := by
  rw [← pointsTo_biUnion Finset.univ (ℓ := ℓ) R hR, hc]

theorem wholes_tiles (d : Dev nD) (x1 y1 x2 y2 : Col F) (t : Tab F) (o : Col F) :
    (wholes d x1 y1 x2 y2 t o : sProp 𝕄)
      = bigSep (Finset.univ : Finset (Fin 2)) fun c => bigSep (Finset.univ : Finset (Fin 16)) fun i => tilePts d (at_ c i) x1 y1 x2 y2 t o := by
  rw [← bigSep_univ_prod (fun p : Sub => tilePts d (sub p) x1 y1 x2 y2 t o)]
  unfold wholes tilePts
  rw [bigSep_sep', bigSep_sep', bigSep_sep', bigSep_sep', bigSep_sep',
    whole_blocks (aLoc d) _ rowsR_disjoint rowsR_cover, whole_blocks (bLoc d) _ rowsR_disjoint rowsR_cover,
    whole_blocks (cLoc d) _ rowsR_disjoint rowsR_cover, whole_blocks (eLoc d) _ rowsR_disjoint rowsR_cover,
    whole_blocks (tLoc d) _ rowsT_disjoint rowsT_cover, whole_blocks (oLoc d) _ rowsR_disjoint rowsR_cover]

/-! ## The host's part -/

/-- The host's operations before the call: four columns cut out and flattened. -/
def hostOps : List (HloOp τ sig (Elt F)) :=
  [StableHlo.unary main_arg0 main_v0 ((extractStridedSlice S16384x1 ![0, 0] · slices_S16384x11_S16384x1_0_0) : (⟨S16384x11, .f32⟩ : BufTy).Contents (Elt F) → (⟨S16384x1, .f32⟩ : BufTy).Contents (Elt F)),
   StableHlo.reshape main_v0 main_v1 (rfl : (.f32 : EltTy) = .f32) shapeCasts_S16384x1_S16384,
   StableHlo.unary main_arg0 main_v2 ((extractStridedSlice S16384x1 ![0, 2] · slices_S16384x11_S16384x1_0_2) : (⟨S16384x11, .f32⟩ : BufTy).Contents (Elt F) → (⟨S16384x1, .f32⟩ : BufTy).Contents (Elt F)),
   StableHlo.reshape main_v2 main_v3 (rfl : (.f32 : EltTy) = .f32) shapeCasts_S16384x1_S16384,
   StableHlo.unary main_arg1 main_v4 ((extractStridedSlice S16384x1 ![0, 0] · slices_S16384x11_S16384x1_0_0) : (⟨S16384x11, .f32⟩ : BufTy).Contents (Elt F) → (⟨S16384x1, .f32⟩ : BufTy).Contents (Elt F)),
   StableHlo.reshape main_v4 main_v5 (rfl : (.f32 : EltTy) = .f32) shapeCasts_S16384x1_S16384,
   StableHlo.unary main_arg1 main_v6 ((extractStridedSlice S16384x1 ![0, 2] · slices_S16384x11_S16384x1_0_2) : (⟨S16384x11, .f32⟩ : BufTy).Contents (Elt F) → (⟨S16384x1, .f32⟩ : BufTy).Contents (Elt F)),
   StableHlo.reshape main_v6 main_v7 (rfl : (.f32 : EltTy) = .f32) shapeCasts_S16384x1_S16384]

theorem main_eq (d : Dev nD) : main (F := F) d = StableHlo.seq hostOps >>= fun _ => (sc (F := F)).run d 0 >>= fun _ => pure ⟨⟩ := by
  rw [StableHlo.seq_bind_seqK]; rfl

/-- A host array, as the device's. -/
abbrev dr (r : Ref sig .tc) : DevRef τ sig := Proc.devRef .tc r

/-- The host's arrays: those that nothing of the call touches, and the six of the call. -/
abbrev hostRefs : Finset (DevRef τ sig) :=
  {dr main_arg0, dr main_arg1, dr main_v0, dr main_v2, dr main_v4, dr main_v6, dr main_v1, dr main_v3, dr main_v5, dr main_v7, dr main_arg2, dr main_v8}

/-- The launch's contents. -/
def V0 (d : Dev nD) : Valuation τ sig (Elt F) := fun b => m (d, b)

theorem unscoped_held (d : Dev nD) : (unscopedBufs d (fun b => m ((SparseCore.T d).loc b)) : sProp 𝕄) = StableHlo.held (SparseCore.T d) hostRefs (V0 m d) := by
  unfold unscopedBufs StableHlo.held hostRefs
  rw [show (Finset.univ.filter fun b : Ref sig .tc => ¬ b.isScoped)
      = {main_arg0, main_arg1, main_v0, main_v2, main_v4, main_v6, main_v1, main_v3, main_v5, main_v7, main_arg2, main_v8} by decide]
  iterate 11 rw [SparseCore.bigSep_insert' (by decide)]
  rw [bigSep_singleton]
  iterate 11 rw [SparseCore.bigSep_insert' (by decide)]
  rw [bigSep_singleton]
  rfl

/-- After the host's operations. -/
abbrev V8 (d : Dev nD) : Valuation τ sig (Elt F) := StableHlo.after hostOps (V0 m d)

theorem V8_arg0 (d : Dev nD) : V8 m d (dr main_arg0) = m (pLoc d) := by
  unfold V8 hostOps; after_results_simp; rfl
theorem V8_arg1 (d : Dev nD) : V8 m d (dr main_arg1) = m (qLoc d) := by
  unfold V8 hostOps; after_results_simp; rfl
theorem V8_arg2 (d : Dev nD) : V8 m d (dr main_arg2) = m (tLoc d) := by
  unfold V8 hostOps; after_results_simp; rfl
theorem V8_v8 (d : Dev nD) : V8 m d (dr main_v8) = m (oLoc d) := by
  unfold V8 hostOps; after_results_simp; rfl
theorem V8_v1 (d : Dev nD) : V8 m d (dr main_v1) = X1 m d := by
  unfold V8 hostOps; after_results_simp
  exact column_of_cut (m (pLoc d)) 0 _ _ _ rfl rfl
theorem V8_v3 (d : Dev nD) : V8 m d (dr main_v3) = Y1 m d := by
  unfold V8 hostOps; after_results_simp
  exact column_of_cut (m (pLoc d)) 2 _ _ _ rfl rfl
theorem V8_v5 (d : Dev nD) : V8 m d (dr main_v5) = X2 m d := by
  unfold V8 hostOps; after_results_simp
  exact column_of_cut (m (qLoc d)) 0 _ _ _ rfl rfl
theorem V8_v7 (d : Dev nD) : V8 m d (dr main_v7) = Y2 m d := by
  unfold V8 hostOps; after_results_simp
  exact column_of_cut (m (qLoc d)) 2 _ _ _ rfl rfl

/-- What is held after the host's operations: the two point arrays, the call's six arrays, and the rest. -/
theorem held_V8 (d : Dev nD) :
    (StableHlo.held (SparseCore.T d) hostRefs (V8 m d) : sProp 𝕄)
      ⊢ iprop((pLoc d ↦{fullShare} m (pLoc d)) ∗ (qLoc d ↦{fullShare} m (qLoc d))
          ∗ wholes d (X1 m d) (Y1 m d) (X2 m d) (Y2 m d) (m (tLoc d)) (m (oLoc d))) := by
  unfold StableHlo.held hostRefs wholes
  iterate 11 rw [SparseCore.bigSep_insert' (by decide)]
  rw [bigSep_singleton, V8_arg0, V8_arg1, V8_v1, V8_v3, V8_v5, V8_v7, V8_arg2, V8_v8]
  iintro ⟨Hp, Hq, -, -, -, -, Ha⟩
  isplitl [Hp]; · iexact Hp
  isplitl [Hq]; · iexact Hq
  iexact Ha

theorem hostOps_bufs : ∀ op ∈ hostOps (F := F), op.bufs ⊆ hostRefs := by
  intro op hop
  simp only [hostOps, List.mem_cons, List.not_mem_nil, or_false] at hop
  rcases hop with rfl | rfl | rfl | rfl | rfl | rfl | rfl | rfl
  · show ({dr main_arg0, dr main_v0} : Finset (DevRef τ sig)) ⊆ hostRefs; decide
  · show ({dr main_v0, dr main_v1} : Finset (DevRef τ sig)) ⊆ hostRefs; decide
  · show ({dr main_arg0, dr main_v2} : Finset (DevRef τ sig)) ⊆ hostRefs; decide
  · show ({dr main_v2, dr main_v3} : Finset (DevRef τ sig)) ⊆ hostRefs; decide
  · show ({dr main_arg1, dr main_v4} : Finset (DevRef τ sig)) ⊆ hostRefs; decide
  · show ({dr main_v4, dr main_v5} : Finset (DevRef τ sig)) ⊆ hostRefs; decide
  · show ({dr main_arg1, dr main_v6} : Finset (DevRef τ sig)) ⊆ hostRefs; decide
  · show ({dr main_v6, dr main_v7} : Finset (DevRef τ sig)) ⊆ hostRefs; decide

theorem hostOps_fresh : ∀ op ∈ hostOps (F := F), op.fresh = ∅ :=
  List.forall_iff_forall_mem.mp (StableHlo.forall_fresh_of_map (ops := hostOps (F := F)) rfl)

/-- What the host leaves: the three arguments as they were, and the result. -/
abbrev FIN (d : Dev nD) : sProp 𝕄 :=
  iprop((pLoc d ↦{fullShare} m (pLoc d)) ∗ (qLoc d ↦{fullShare} m (qLoc d)) ∗ (tLoc d ↦{fullShare} m (tLoc d)) ∗ (oLoc d ↦{fullShare} G m d))

/-- The host's program on device `d`: the columns, then the call from the six arrays cut into blocks, and the blocks joined back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d hostRefs _ hostOps hostOps_bufs hostOps_fresh (V0 m d)) $$ [Hb Hheld]
  · isplitl [Hb]; · iexact Hb
    iexact Hheld
  iintro ⟨Hb, Hheld⟩
  ihave Hh := (held_V8 m d) $$ Hheld
  icases Hh with ⟨Hp, Hq, Hw⟩
  ihave Hw := (Entails.of_eq (wholes_tiles d _ _ _ _ _ _)) $$ Hw
  simp only [wp_bind, wp_pure]
  iapply ((K (F := F)).wp_run (D (F := F)) 𝒱 (EH := EH) (P := P m) κ d 0) $$ [Hst Hp Hq Hw Hb Hts]
  isplitr; · iexact Hctx
  isplitl [Hst]; · iexact Hst
  isplitl [Hw]; · iexact Hw
  iintro ⟨Hst, Hdn⟩
  ihave Hw := (show (bigSep Finset.univ fun c : Fin ((K (F := F)).nCore 0) => (P m).dn 0 d c)
      ⊢ wholes d (X1 m d) (Y1 m d) (X2 m d) (Y2 m d) (m (tLoc d)) (G m d) from Entails.of_eq (wholes_tiles d _ _ _ _ _ _).symm) $$ Hdn
  unfold wholes
  icases Hw with ⟨-, -, -, -, Ht, Ho⟩
  imodintro
  isplitl [Hst]; · iexact Hst
  isplitr [Hb Hts]
  · isplitl [Hp]; · iexact Hp
    isplitl [Hq]; · iexact Hq
    isplitl [Ht]; · iexact Ht
    iexact Ho
  isplitl [Hb] <;> iassumption

/-! ## The end -/

/-- What the final memory holds on device `d`. -/
def fq (d : Dev nD) (s' : Phys nD τ sig (Elt F)) : Prop :=
  s'.mem.mem (pLoc d) = m (pLoc d) ∧ s'.mem.mem (qLoc d) = m (qLoc d) ∧ s'.mem.mem (tLoc d) = m (tLoc d) ∧ s'.mem.mem (oLoc d) = G m d

/-- An array held whole is what memory holds there. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h : iprop((ℓ ↦{fullShare} f) ∗ SI s') ⊢ (⌜s'.mem.mem ℓ = f⌝ : sProp 𝕄) := by
    iintro ⟨Hf, HSI⟩
    ihave H := (SI_pointsTo_agree (st := s') (ℓ := ℓ) (I := Finset.univ) (q := fullShare) (f := f)) $$ [HSI Hf]
    · isplitl [HSI] <;> iassumption
    icases H with %hx
    ipureintro; exact funext fun i => hx i (Finset.mem_univ i)
  refine (persistent_entails_right h).trans ?_
  iintro ⟨%hx, -, HSI⟩
  isplitr; · ipureintro; exact hx
  iexact HSI

theorem hfin (d : Dev nD) (s' : Phys nD τ sig (Elt F)) : iprop(FIN m d ∗ SI s') ⊢ (⌜fq m d s'⌝ : sProp 𝕄) := by
  iintro ⟨⟨Hp, Hq, Ht, Ho⟩, HSI⟩
  ihave H := (agree (pLoc d) _ s') $$ [Hp HSI]
  · isplitl [Hp] <;> iassumption
  icases H with ⟨%hp, HSI⟩
  ihave H := (agree (qLoc d) _ s') $$ [Hq HSI]
  · isplitl [Hq] <;> iassumption
  icases H with ⟨%hq, HSI⟩
  ihave H := (agree (tLoc d) _ s') $$ [Ht HSI]
  · isplitl [Ht] <;> iassumption
  icases H with ⟨%ht, HSI⟩
  ihave H := (agree (oLoc d) _ s') $$ [Ho HSI]
  · isplitl [Ho] <;> iassumption
  icases H with ⟨%ho, HSI⟩
  ipureintro; exact ⟨hp, hq, ht, ho⟩

/-- What every end of the program has: `fq` on each device, and every semaphore at zero. -/
def QC : PUnit × MemSt nD τ sig (Elt F) → Prop := fun r =>
  (∀ d : Dev nD, r.2.mem (pLoc d) = m (pLoc d) ∧ r.2.mem (qLoc d) = m (qLoc d) ∧ r.2.mem (tLoc d) = m (tLoc d) ∧ r.2.mem (oLoc d) = G m d)
    ∧ r.2.sem = fun _ => 0

/-- The program terminates, for any float values, at `QC`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/-
  The frames: both forms of the kernel run, leave their arguments as they were, and end with every semaphore
  at zero. Each is the launch's run at one kind of float value. The kernel as printed differs from the
  idealized one only in that it writes six constants as literals where the other names them; at bit patterns
  a name is read as its literal, and then the two programs are one.
-/
module

public import proofs.«01_k».proof.Defs
public import proofs.«01_k».proof.Proof.Gen.Kernel
public import proofs.«01_k».proof.Proof.Launch

@[expose] public section

noncomputable section

namespace Cert.Proof

open Idealize.ShloMosaic Idealize.SL.Sem

/-- At bit patterns a named constant is its literal. -/
instance literalNames : Named Bits where
  named _ _ {φ} b := Scalar.ofBits φ b

theorem frame_KernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

theorem frame_Kernel : Cert.quiescent_Kernel (hKernel := Cert.Kernel.Gen.facts) := fun m ρ _ =>
  (θ_run Cert.Kernel.defs _ _).mono (fun _ h => ⟨fun c => ⟨(h.1 c).1, (h.1 c).2.1, (h.1 c).2.2.1⟩, h.2⟩)
    (show θ_run (Cert.Kernel.defs (F := Bits)) (Cert.Kernel.threads (F := Bits)) ⟨m, fun _ => 0, ρ⟩ (QC (F := Bits) m) from run_main (F := Bits) m ρ)

end Cert.Proof

end
-- ==== Proof.Thresholds.lean ====
/-
  Thresholds over the extended reals.

  The reference compares the distance, a square root, with `i / 10`; the kernel compares the squared distance
  with nine numbers of its own. For a sum of two squares `r`, `i / 10 ≤ √r` says the same as
  `i² / 100 ≤ r` (`tenth_le_sqrt`). Six of the kernel's numbers are named `i² / 100`, the fifth is `1 / 4`
  exactly, and the seventh and the ninth are words beside `49 / 100` and `81 / 100`: for those two the
  comparisons agree where `r` lies off the two gaps (`OffGaps`). So the kernel's bucket is the reference's
  count there (`bucketOf_eq_count`).
-/
module

public import proofs.«01_k».proof.Proof.Bucket
public import Idealize.ShloMosaic.PureOps.Ideal
public import Idealize.ShloMosaic.Lib.IdealHost

@[expose] public section

noncomputable section

namespace Cert.Proof

open Cert.KernelIdeal
open Idealize.ShloMosaic

/-! ## The words -/

/-- A positive f32 word whose exponent is neither all zeros nor all ones: its significand times a power of two. -/
theorem word_normal (w : BitVec 32) (e f : ℕ) (hs : w.extractLsb' 31 1 = 0#1) (he : (w.extractLsb' 23 8).toNat = e)
    (hf : (w.extractLsb' 0 23).toNat = f) (h0 : e ≠ 0) (h1 : e ≠ 255) :
    Ideal.ofBits .f32 w = (((8388608 + f : ℕ) * (2 : ℝ) ^ ((e : ℤ) - 150) : ℝ) : EReal) := by
  subst he hf
  simp only [Ideal.ofBits, Ideal.ieee, Nat.reduceAdd, hs, Nat.reducePow, Nat.add_one_sub_one, Nat.reduceSub, h0, h1, if_false]
  congr 1
  rw [show ((w.extractLsb' 23 8).toNat : ℤ) - (2 ^ 7 - 1) - (23 : ℕ) = ((w.extractLsb' 23 8).toNat : ℤ) - 150 by norm_num; ring]
  norm_num

theorem word_ten : Ideal.ofBits .f32 0x41200000#32 = ((10 : ℝ) : EReal) :=
  (word_normal _ 130 2097152 rfl rfl rfl (by decide) (by decide)).trans (by norm_num)

theorem word_quarter : Ideal.ofBits .f32 0x3E800000#32 = ((25 / 100 : ℝ) : EReal) :=
  (word_normal _ 125 0 rfl rfl rfl (by decide) (by decide)).trans (by norm_num)

theorem word_hundred : Ideal.ofBits .f32 0x42C80000#32 = ((100 : ℝ) : EReal) :=
  (word_normal _ 133 4718592 rfl rfl rfl (by decide) (by decide)).trans (by norm_num)

theorem word_49 : Ideal.ofBits .f32 0x42440000#32 = ((49 : ℝ) : EReal) :=
  (word_normal _ 132 4456448 rfl rfl rfl (by decide) (by decide)).trans (by norm_num)

theorem word_81 : Ideal.ofBits .f32 0x42A20000#32 = ((81 : ℝ) : EReal) :=
  (word_normal _ 133 2228224 rfl rfl rfl (by decide) (by decide)).trans (by norm_num)

/-- The kernel's seventh number is a little below 49/100. -/
theorem word_seven : Ideal.ofBits .f32 0x3EFAE146#32 = ((16441670 / 33554432 : ℝ) : EReal) :=
  (word_normal _ 125 8053062 rfl rfl rfl (by decide) (by decide)).trans (by norm_num)

/-- The kernel's ninth number is a little above 81/100. -/
theorem word_nine : Ideal.ofBits .f32 0x3F4F5C2A#32 = ((13589546 / 16777216 : ℝ) : EReal) :=
  (word_normal _ 126 5200938 rfl rfl rfl (by decide) (by decide)).trans (by norm_num)

/-! ## Squares and roots -/

theorem zero_le_square (x : EReal) : 0 ≤ x * x := by
  induction x with
  | bot => rw [EReal.bot_mul_bot]; exact le_top
  | top => rw [EReal.top_mul_top]; exact le_top
  | coe x => rw [← EReal.coe_mul]; exact_mod_cast mul_self_nonneg x

theorem zero_le_sqDist (x1 y1 x2 y2 : EReal) : 0 ≤ sqDist (F := Ideal) x1 y1 x2 y2 :=
  add_nonneg (zero_le_square _) (zero_le_square _)

/-- A tenth's multiple is at most a root exactly where its square is at most the number under the root. -/
theorem tenth_le_sqrt {r : EReal} (hr : 0 ≤ r) (i : ℕ) :
    (((i : ℝ) / 10 : ℝ) : EReal) ≤ Ideal.sqrt r ↔ (((i : ℝ) ^ 2 / 100 : ℝ) : EReal) ≤ r := by
  induction r with
  | bot => exact absurd hr (by simp)
  | top => exact iff_of_true (show _ ≤ (⊤ : EReal) from le_top) le_top
  | coe r =>
    have hr' : 0 ≤ r := by exact_mod_cast hr
    have hs : Ideal.sqrt (r : EReal) = (Real.sqrt r : EReal) := if_neg (not_lt.mpr hr')
    rw [hs, EReal.coe_le_coe_iff, EReal.coe_le_coe_iff, Real.le_sqrt (show (0 : ℝ) ≤ (i : ℝ) / 10 by positivity), div_pow]
    · norm_num
    · exact hr'

/-- The reference's weight times a whole number is that number of tenths. -/
theorem weight_mul (i : ℝ) : Ideal.div 1 (Ideal.ofBits .f32 0x41200000#32) * (1 + (i : EReal)) = (((i + 1) / 10 : ℝ) : EReal) := by
  rw [word_ten, Ideal.div, if_neg (by norm_num), ← EReal.coe_inv, ← EReal.coe_one, ← EReal.coe_mul, ← EReal.coe_add, ← EReal.coe_mul]
  congr 1
  ring

/-! ## Counting -/

/-- The word 1 where a statement holds, and 0 elsewhere. -/
def word (p : Prop) [Decidable p] : BitVec 32 := (BitVec.ofBool (decide p)).setWidth 32

theorem word_congr {p q : Prop} [Decidable p] [Decidable q] (h : p ↔ q) : word p = word q := by
  unfold word; rw [decide_eq_decide.mpr h]

theorem reached_eq (r t : EReal) : reached (F := Ideal) r t = word (t ≤ r) := rfl

/-- The squared distance lies in neither of the two gaps between the kernel's numbers and 49/100, 81/100. -/
structure OffGaps (r : EReal) : Prop where
  seven : Ideal.ofBits .f32 0x3EFAE146#32 ≤ r → ((49 / 100 : ℝ) : EReal) ≤ r
  nine : ((81 / 100 : ℝ) : EReal) ≤ r → Ideal.ofBits .f32 0x3F4F5C2A#32 ≤ r

/-- How many of the nine tenths a distance reaches. -/
def count (r : EReal) : BitVec 32 := Finset.univ.fold IntOp.addi 0#32 fun k : Fin 9 => word ((((k.val + 1 : ℕ) : ℝ) / 10 : ℝ) ≤ Ideal.sqrt r)

theorem bucketOf_eq_count {r : EReal} (hr : 0 ≤ r) (h : OffGaps r) : bucketOf (F := Ideal) r = count r := by
  have one (i : ℕ) (t : EReal) (ht : t ≤ r ↔ (((i : ℝ) ^ 2 / 100 : ℝ) : EReal) ≤ r) :
      reached (F := Ideal) r t = word ((((i : ℕ) : ℝ) / 10 : ℝ) ≤ Ideal.sqrt r) := by
    rw [reached_eq]; exact word_congr (ht.trans (tenth_le_sqrt hr i).symm)
  have named (i : ℕ) (t : EReal) (ht : t = (((i : ℝ) ^ 2 / 100 : ℝ) : EReal)) :
      reached (F := Ideal) r t = word ((((i : ℕ) : ℝ) / 10 : ℝ) ≤ Ideal.sqrt r) := one i t (by rw [ht])
  have h1 := named 1 (Named.named (F := Ideal) (φ := .f32) κ "t1" 0x3C23D70A#32) (Eq.trans (b := ((1 / 100 : ℝ) : EReal)) rfl (by norm_num))
  have h2 := named 2 (Named.named (F := Ideal) (φ := .f32) κ "t2" 0x3D23D70A#32) (Eq.trans (b := ((1 / 25 : ℝ) : EReal)) rfl (by norm_num))
  have h3 := named 3 (Named.named (F := Ideal) (φ := .f32) κ "t3" 0x3DB851EC#32) (Eq.trans (b := ((9 / 100 : ℝ) : EReal)) rfl (by norm_num))
  have h4 := named 4 (Named.named (F := Ideal) (φ := .f32) κ "t4" 0x3E23D70A#32) (Eq.trans (b := ((4 / 25 : ℝ) : EReal)) rfl (by norm_num))
  have h5 := named 5 (Scalar.ofBits (F := Ideal) .f32 0x3E800000#32) (Eq.trans (b := ((25 / 100 : ℝ) : EReal)) word_quarter (by norm_num))
  have h6 := named 6 (Named.named (F := Ideal) (φ := .f32) κ "t6" 0x3EB851EC#32) (Eq.trans (b := ((9 / 25 : ℝ) : EReal)) rfl (by norm_num))
  have h8 := named 8 (Named.named (F := Ideal) (φ := .f32) κ "t8" 0x3F23D70A#32) (Eq.trans (b := ((16 / 25 : ℝ) : EReal)) rfl (by norm_num))
  have h7 := one 7 (Scalar.ofBits (F := Ideal) .f32 0x3EFAE146#32) (by
    have e : (((7 : ℕ) : ℝ) ^ 2 / 100 : ℝ) = 49 / 100 := by norm_num
    rw [e]
    refine ⟨h.seven, fun h' => le_trans ?_ h'⟩
    show Ideal.ofBits .f32 0x3EFAE146#32 ≤ _
    rw [word_seven, EReal.coe_le_coe_iff]; norm_num)
  have h9 := one 9 (Scalar.ofBits (F := Ideal) .f32 0x3F4F5C2A#32) (by
    have e : (((9 : ℕ) : ℝ) ^ 2 / 100 : ℝ) = 81 / 100 := by norm_num
    rw [e]
    refine ⟨fun h' => le_trans ?_ h', h.nine⟩
    show _ ≤ Ideal.ofBits .f32 0x3F4F5C2A#32
    rw [word_nine, EReal.coe_le_coe_iff]; norm_num)
  unfold bucketOf
  rw [h1, h2, h3, h4, h5, h6, h7, h8, h9]
  show _ = word _ + (word _ + (word _ + (word _ + (word _ + (word _ + (word _ + (word _ + (word _ + 0#32))))))))
  simp only [BitVec.zero_add, BitVec.add_zero, BitVec.add_assoc]

end Cert.Proof

end
-- ==== Proof.Reference.lean ====
/-
  What a row of the reference is: the sum over the ten columns of the table's entry times 1 at the column whose
  number is the count of tenths reached, and times 0 elsewhere. So it is the table's entry at that column.
-/
module

public import proofs.«01_k».proof.Proof.Columns
public import proofs.«01_k».proof.Proof.Thresholds
public import proofs.«01_k».proof.Proof.Gen.ReferenceIdeal.Run
public import Idealize.ShloMosaic.Lib.Pointwise
public import Idealize.ShloMosaic.Lib.Pointwise.Reduce
public import Idealize.ShloMosaic.Lib.Tactic.CleanTypes

@[expose] public section

noncomputable section

namespace Cert.Proof

open Idealize.ShloMosaic

/-- A row times a one-hot row, summed, is the entry at the hot column. -/
theorem sum_one_hot (t : Fin 10 → EReal) (g : BitVec 32) (hg : g.toNat < 10) :
    ∑ k : Fin 10, t k * (FloatOps.uitofp .f32 (IntOp.cmpi .eq g (BitVec.ofNat 32 k.val)) : Ideal .f32) = t ⟨g.toNat, hg⟩ := by
  rw [Finset.sum_eq_single (⟨g.toNat, hg⟩ : Fin 10)]
  · have e : IntOp.cmpi .eq g (BitVec.ofNat 32 g.toNat) = 1#1 := by
      rw [BitVec.ofNat_toNat, BitVec.setWidth_eq]; simp [IntOp.cmpi]
    show t _ * (((IntOp.cmpi .eq g (BitVec.ofNat 32 g.toNat)).toNat : ℝ) : EReal) = _
    rw [e]
    simp
  · intro k _ hk
    have ne : g ≠ BitVec.ofNat 32 k.val := by
      intro h
      apply hk
      apply Fin.ext
      show k.val = g.toNat
      rw [h, BitVec.toNat_ofNat]
      have := k.isLt
      omega
    have e : IntOp.cmpi .eq g (BitVec.ofNat 32 k.val) = 0#1 := by
      show BitVec.ofBool (g == BitVec.ofNat 32 k.val) = 0#1
      rw [beq_eq_false_iff_ne.mpr ne]; rfl
    show t _ * (((IntOp.cmpi .eq g (BitVec.ofNat 32 k.val)).toNat : ℝ) : EReal) = _
    rw [e]
    simp
  · exact fun h => absurd (Finset.mem_univ _) h

/-- A small whole number, read as a signed word. -/
theorem small_nat (k : Fin 9) : (FloatOps.sitofp .f32 (BitVec.ofNat 32 k.val) : Ideal .f32) = ((k.val : ℝ) : EReal) := by
  show (((BitVec.ofNat 32 k.val).toInt : ℝ) : EReal) = _
  have h : (BitVec.ofNat 32 k.val).toInt = (k.val : ℤ) := by revert k; decide
  rw [h]
  norm_cast

section
open Cert.ReferenceIdeal Cert.ReferenceIdeal.Value

/-- Off the gaps a row of the reference is the row that the kernel picks. -/
theorem reference_row (m : (ℓ : Loc nD τ sig) → Buf (Elt Ideal) ℓ) (c : Dev nD) (j : S16384.Idx)
    (h : OffGaps (sqDist (F := Ideal) (m (c.tc.loc main_arg0) (cell (rowOf j) 0)) (m (c.tc.loc main_arg0) (cell (rowOf j) 2))
      (m (c.tc.loc main_arg1) (cell (rowOf j) 0)) (m (c.tc.loc main_arg1) (cell (rowOf j) 2)))) :
    res_out0 m c j = picked (F := Ideal) (column (n := 16384) (k := 11) (m (c.tc.loc main_arg0)) 0) (column (n := 16384) (k := 11) (m (c.tc.loc main_arg0)) 2)
      (column (n := 16384) (k := 11) (m (c.tc.loc main_arg1)) 0) (column (n := 16384) (k := 11) (m (c.tc.loc main_arg1)) 2) (m (c.tc.loc main_arg2)) j := by
  have hc := bucketOf_eq_count (zero_le_sqDist _ _ _ _) h
  unfold res_out0 res_main_v39
  clean_types
  pointwise
  simp only [small_nat, weight_mul, neg_mul_neg]
  refine Eq.trans ?_ (sum_one_hot (fun k => m (c.tc.loc main_arg2) (cell (rowOf j) k)) (bucket (F := Ideal) (m (c.tc.loc main_arg0) (cell (rowOf j) 0))
    (m (c.tc.loc main_arg0) (cell (rowOf j) 2)) (m (c.tc.loc main_arg1) (cell (rowOf j) 0)) (m (c.tc.loc main_arg1) (cell (rowOf j) 2))) (bucket_lt _ _ _ _))
  refine Finset.sum_congr rfl fun k _ => ?_
  unfold bucket
  rw [hc]
  unfold count word sqDist
  simp only [Nat.cast_add, Nat.cast_one]
  rfl

end

end Cert.Proof

end
-- ==== Proof.Mask.lean ====
/-
  The mask: a row that it selects has its squared distance off the two gaps.
-/
module

public import proofs.«01_k».proof.On_off_the_gaps
public import proofs.«01_k».proof.Proof.Reference

@[expose] public section

noncomputable section

namespace Cert.Proof

open Idealize.ShloMosaic

/-- The mask's shapes fit. -/
instance maskFacts : Cert.On_off_the_gaps.Facts where
  slices_S16384x11_S16384x1_0_0 := by decide
  shapeCasts_S16384x1_S16384 := by decide
  slices_S16384x11_S16384x1_0_2 := by decide
  bcast_S_S16384 := by decide

/-- A hundred times a number is below a whole number exactly where the number is below as many hundredths. -/
theorem hundred_mul_lt (r : EReal) (n : ℝ) : ((100 : ℝ) : EReal) * r < (n : EReal) ↔ r < ((n / 100 : ℝ) : EReal) := by
  induction r with
  | bot => rw [EReal.coe_mul_bot_of_pos (by norm_num)]; exact iff_of_true (EReal.bot_lt_coe _) (EReal.bot_lt_coe _)
  | top => rw [EReal.coe_mul_top_of_pos (by norm_num)]; exact iff_of_false not_top_lt not_top_lt
  | coe r =>
    rw [← EReal.coe_mul, EReal.coe_lt_coe_iff, EReal.coe_lt_coe_iff, lt_div_iff₀ (by norm_num), mul_comm]

/-- What the mask's word says. -/
theorem offGaps_of_word {r : EReal}
    (h : ~~~IntOp.ori
        (IntOp.andi (BitVec.ofBool (decide (Ideal.ofBits .f32 0x3EFAE146#32 ≤ r)))
          (BitVec.ofBool (decide (Ideal.ofBits .f32 0x42C80000#32 * r < Ideal.ofBits .f32 0x42440000#32))))
        (IntOp.andi (BitVec.ofBool (decide (Ideal.ofBits .f32 0x42A20000#32 ≤ Ideal.ofBits .f32 0x42C80000#32 * r)))
          (BitVec.ofBool (decide (r < Ideal.ofBits .f32 0x3F4F5C2A#32)))) = 1#1) : OffGaps r := by
  have key : ∀ a b c d : Bool, ~~~IntOp.ori (IntOp.andi (BitVec.ofBool a) (BitVec.ofBool b)) (IntOp.andi (BitVec.ofBool c) (BitVec.ofBool d)) = 1#1 →
      (a = true → b = false) ∧ (c = true → d = false) := by decide
  obtain ⟨h7, h9⟩ := key _ _ _ _ h
  simp only [decide_eq_true_eq, decide_eq_false_iff_not, word_hundred, word_49, word_81, hundred_mul_lt, not_lt] at h7 h9
  refine ⟨h7, fun h' => h9 ?_⟩
  rwa [← not_lt, hundred_mul_lt, not_lt]

theorem offGaps_of_mask (x y : FVec Ideal Cert.On_off_the_gaps.S16384x11 .f32) (t : FVec Ideal Cert.On_off_the_gaps.S16384x10 .f32)
    (j : Cert.On_off_the_gaps.S16384.Idx) (h : Cert.On_off_the_gaps.fn (F := Ideal) x y t j = 1#1) :
    OffGaps (sqDist (F := Ideal) (x (cell (rowOf j) 0)) (x (cell (rowOf j) 2)) (y (cell (rowOf j) 0)) (y (cell (rowOf j) 2))) := by
  apply offGaps_of_word
  dsimp only [Cert.On_off_the_gaps.fn, Cert.On_off_the_gaps.fn_part1] at h
  pointwise at h
  exact h

end Cert.Proof

end
-- ==== Proof.lean ====
/-
  The proof of `Cert.Claim`: the three frames, the six named constants, and the value claim.

  The kernel's result is, in each row, the table's entry at the row's bucket (Proof/Launch.lean). The
  reference's result is the table's entry at the number of tenths that the distance reaches
  (Proof/Reference.lean). In a row that the mask selects the two columns are one (Proof/Thresholds.lean,
  Proof/Mask.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Mask
public import Idealize.ShloMosaic.Adequacy
public import Idealize.ShloMosaic.Init

@[expose] public section

noncomputable section

namespace Cert.Proof

open Idealize.ShloMosaic Idealize.SL.Sem

/-- The reference runs, leaves its arguments, and has no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The six named constants: each name stands for its fraction. -/
theorem preserves : Cert.preserves_Kernel_KernelIdeal :=
  ⟨IdealRules.named_const.statement Cert.KernelIdeal.κ "t1" .f32 0x3C23D70A#32 _ rfl,
    IdealRules.named_const.statement Cert.KernelIdeal.κ "t2" .f32 0x3D23D70A#32 _ rfl,
    IdealRules.named_const.statement Cert.KernelIdeal.κ "t3" .f32 0x3DB851EC#32 _ rfl,
    IdealRules.named_const.statement Cert.KernelIdeal.κ "t4" .f32 0x3E23D70A#32 _ rfl,
    IdealRules.named_const.statement Cert.KernelIdeal.κ "t6" .f32 0x3EB851EC#32 _ rfl,
    IdealRules.named_const.statement Cert.KernelIdeal.κ "t8" .f32 0x3F23D70A#32 _ rfl⟩

/-- From equal arguments both end with the picked entries in every row that the mask selects. -/
theorem value : Cert.algebraic_KernelIdeal_ReferenceIdeal_on_off_the_gaps (hKernelIdeal := Cert.KernelIdeal.Gen.facts)
    (hReferenceIdeal := Cert.ReferenceIdeal.Gen.facts) (hOn_off_the_gaps := maskFacts) := fun m ρ m' ρ' _ hargs =>
  ⟨fun d => G m d,
    (θ_run Cert.KernelIdeal.defs _ _).mono (fun _ h c => ⟨fun i _ => congrFun (h.1 c).2.2.2 i, (h.1 c).1, (h.1 c).2.1, (h.1 c).2.2.1⟩)
      (run_main (F := Ideal) m ρ),
    (θ_run Cert.ReferenceIdeal.defs _ _).mono (fun r h c => ⟨fun i hi => by
        obtain ⟨e0, e1, e2⟩ := hargs c
        have hoff := offGaps_of_mask _ _ _ _ hi
        rw [← e0, ← e1] at hoff
        refine (congrFun (h c).1 i).trans ((reference_row m' c i hoff).trans ?_)
        rw [e0, e1, e2]
        rfl, (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, maskFacts,
    frame_Kernel, frame_KernelIdeal, frame_ReferenceIdeal, preserves, value⟩

end Cert.Proof

end
